-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4x512x512 : Shape := ⟨4, ![4, 4, 512, 512]⟩
abbrev S4x512x3 : Shape := ⟨3, ![4, 512, 3]⟩
abbrev S4x512 : Shape := ⟨2, ![4, 512]⟩
abbrev S4x4x512 : Shape := ⟨3, ![4, 4, 512]⟩
abbrev S512x512 : Shape := ⟨2, ![512, 512]⟩
abbrev S512 : Shape := ⟨1, ![512]⟩
abbrev S32x3 : Shape := ⟨2, ![32, 3]⟩
abbrev S32 : Shape := ⟨1, ![32]⟩
abbrev S16x64 : Shape := ⟨2, ![16, 64]⟩
abbrev S8x16 : Shape := ⟨2, ![8, 16]⟩
abbrev S16x3 : Shape := ⟨2, ![16, 3]⟩
abbrev S16 : Shape := ⟨1, ![16]⟩
abbrev S_ : Shape := ⟨0, ![]⟩

class Facts : Prop where
  slices_S32x3_S16x3_0_0 : S32x3.Slices ![0, 0] S16x3
  slices_S32_S16_0 : S32.Slices ![0] S16
  bcast_S_S4x512x3 : S_.BroadcastsInDim S4x512x3 (![] : Fin 0 → Fin S4x512x3.rank)
  bcast_S_S512x512 : S_.BroadcastsInDim S512x512 (![] : Fin 0 → Fin S512x512.rank)
  bcast_S_S512 : S_.BroadcastsInDim S512 (![] : Fin 0 → Fin S512.rank)
  bcast_S_S16x3 : S_.BroadcastsInDim S16x3 (![] : Fin 0 → Fin S16x3.rank)
  bcast_S_S16 : S_.BroadcastsInDim S16 (![] : Fin 0 → Fin S16.rank)
  bcast_S_S32x3 : S_.BroadcastsInDim S32x3 (![] : Fin 0 → Fin S32x3.rank)
  bcast_S_S16x64 : S_.BroadcastsInDim S16x64 (![] : Fin 0 → Fin S16x64.rank)
  bcast_S_S8x16 : S_.BroadcastsInDim S8x16 (![] : Fin 0 → Fin S8x16.rank)

variable [Facts]

def fn_part1 {F : FTy → Type} [FloatOps F] (main_arg11 : FVec F S32x3 .f32) (main_arg12 : FVec F S16x64 .f32) (main_arg13 : FVec F S8x16 .f32) (main_v4 : IVec S4x512x3 1) (main_v7 : IVec S512x512 1) (main_v10 : IVec S512x512 1) (main_v13 : IVec S512 1) (main_v16 : IVec S16x3 1) (main_v17 : FVec F S16 .f32) (main_cst_4 : FVec F S_ .f32) : IVec S4x512x3 1 × IVec S512x512 1 × IVec S512x512 1 × IVec S512 1 × IVec S16x3 1 × IVec S16 1 × IVec S32x3 1 × IVec S16x64 1 × IVec S8x16 1 :=
  let main_v18 : FVec F S16 .f32 := broadcastInDim S16 ![] bcast_S_S16 main_cst_4
  let main_v19 : IVec S16 1 := cmpf .olt main_v17 main_v18
  let main_v20 : FVec F S32x3 .f32 := Host.absf main_arg11
  let main_cst_5 : FVec F S_ .f32 := constant S_ .f32 0x7F800000#32
  let main_v21 : FVec F S32x3 .f32 := broadcastInDim S32x3 ![] bcast_S_S32x3 main_cst_5
  let main_v22 : IVec S32x3 1 := cmpf .olt main_v20 main_v21
  let main_v23 : FVec F S16x64 .f32 := Host.absf main_arg12
  let main_cst_6 : FVec F S_ .f32 := constant S_ .f32 0x7F800000#32
  let main_v24 : FVec F S16x64 .f32 := broadcastInDim S16x64 ![] bcast_S_S16x64 main_cst_6
  let main_v25 : IVec S16x64 1 := cmpf .olt main_v23 main_v24
  let main_v26 : FVec F S8x16 .f32 := Host.absf main_arg13
  let main_cst_7 : FVec F S_ .f32 := constant S_ .f32 0x7F800000#32
  let main_v27 : FVec F S8x16 .f32 := broadcastInDim S8x16 ![] bcast_S_S8x16 main_cst_7
  let main_v28 : IVec S8x16 1 := cmpf .olt main_v26 main_v27
  (main_v4, main_v7, main_v10, main_v13, main_v16, main_v19, main_v22, main_v25, main_v28)

def fn {F : FTy → Type} [FloatOps F] (main_arg0 : FVec F S4x4x512x512 .f32) (main_arg1 : FVec F S4x512x3 .f32) (main_arg2 : IVec S4x512 1) (main_arg3 : IVec S4x4x512 1) (main_arg4 : FVec F S512x512 .f32) (main_arg5 : FVec F S512x512 .f32) (main_arg6 : FVec F S512x512 .f32) (main_arg7 : FVec F S512x512 .f32) (main_arg8 : FVec F S512 .f32) (main_arg9 : FVec F S32x3 .f32) (main_arg10 : FVec F S32 .f32) (main_arg11 : FVec F S32x3 .f32) (main_arg12 : FVec F S16x64 .f32) (main_arg13 : FVec F S8x16 .f32) : IVec S4x512x3 1 × IVec S512x512 1 × IVec S512x512 1 × IVec S512 1 × IVec S16x3 1 × IVec S16 1 × IVec S32x3 1 × IVec S16x64 1 × IVec S8x16 1 :=
  let main_v0 : FVec F S16x3 .f32 := (extractStridedSlice S16x3 ![0, 0] · slices_S32x3_S16x3_0_0) main_arg9
  let main_v1 : FVec F S16 .f32 := (extractStridedSlice S16 ![0] · slices_S32_S16_0) main_arg10
  let main_v2 : FVec F S4x512x3 .f32 := Host.absf main_arg1
  let main_cst : FVec F S_ .f32 := constant S_ .f32 0x7F800000#32
  let main_v3 : FVec F S4x512x3 .f32 := broadcastInDim S4x512x3 ![] bcast_S_S4x512x3 main_cst
  let main_v4 : IVec S4x512x3 1 := cmpf .olt main_v2 main_v3
  let main_v5 : FVec F S512x512 .f32 := Host.absf main_arg4
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  let main_v8 : FVec F S512x512 .f32 := Host.absf main_arg5
  let main_cst_1 : FVec F S_ .f32 := constant S_ .f32 0x7F800000#32
  let main_v9 : FVec F S512x512 .f32 := broadcastInDim S512x512 ![] bcast_S_S512x512 main_cst_1
  let main_v10 : IVec S512x512 1 := cmpf .olt main_v8 main_v9
  let main_v11 : FVec F S512 .f32 := Host.absf main_arg8
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_v14 : FVec F S16x3 .f32 := Host.absf main_v0
  let main_cst_3 : FVec F S_ .f32 := constant S_ .f32 0x7F800000#32
  let main_v15 : FVec F S16x3 .f32 := broadcastInDim S16x3 ![] bcast_S_S16x3 main_cst_3
  let main_v16 : IVec S16x3 1 := cmpf .olt main_v14 main_v15
  let main_v17 : FVec F S16 .f32 := Host.absf main_v1
  let main_cst_4 : FVec F S_ .f32 := constant S_ .f32 0x7F800000#32
  fn_part1 (F := F) main_arg11 main_arg12 main_arg13 main_v4 main_v7 main_v10 main_v13 main_v16 main_v17 main_cst_4
-- ==== Kernel.lean ====
abbrev S4x4x512x512 : Shape := ⟨4, ![4, 4, 512, 512]⟩
abbrev S4x512x3 : Shape := ⟨3, ![4, 512, 3]⟩
abbrev S4x512 : Shape := ⟨2, ![4, 512]⟩
abbrev S4x4x512 : Shape := ⟨3, ![4, 4, 512]⟩
abbrev S512x512 : Shape := ⟨2, ![512, 512]⟩
abbrev S512 : Shape := ⟨1, ![512]⟩
abbrev S32x3 : Shape := ⟨2, ![32, 3]⟩
abbrev S32 : Shape := ⟨1, ![32]⟩
abbrev S16x64 : Shape := ⟨2, ![16, 64]⟩
abbrev S8x16 : Shape := ⟨2, ![8, 16]⟩
abbrev S4x512x32 : Shape := ⟨3, ![4, 512, 32]⟩
abbrev S1x1x32 : Shape := ⟨3, ![1, 1, 32]⟩
abbrev S4x512x16 : Shape := ⟨3, ![4, 512, 16]⟩
abbrev S4x512x64 : Shape := ⟨3, ![4, 512, 64]⟩
abbrev S_ : Shape := ⟨0, ![]⟩
abbrev S1x512 : Shape := ⟨2, ![1, 512]⟩
abbrev S512x1 : Shape := ⟨2, ![512, 1]⟩
abbrev S4x1x512 : Shape := ⟨3, ![4, 1, 512]⟩
abbrev S4x4x1x512 : Shape := ⟨4, ![4, 4, 1, 512]⟩
abbrev S4x4 : Shape := ⟨2, ![4, 4]⟩
abbrev S4x4x1 : Shape := ⟨3, ![4, 4, 1]⟩
abbrev S4x4x512x1 : Shape := ⟨4, ![4, 4, 512, 1]⟩
abbrev S4x512x512 : Shape := ⟨3, ![4, 512, 512]⟩
abbrev S1x512x64 : Shape := ⟨3, ![1, 512, 64]⟩
abbrev S1x512x512 : Shape := ⟨3, ![1, 512, 512]⟩
abbrev S512x64 : Shape := ⟨2, ![512, 64]⟩
abbrev S512x16 : Shape := ⟨2, ![512, 16]⟩
abbrev S1x16 : Shape := ⟨2, ![1, 16]⟩
abbrev S1x1x512x512 : Shape := ⟨4, ![1, 1, 512, 512]⟩
abbrev S1x1x1x512 : Shape := ⟨4, ![1, 1, 1, 512]⟩
abbrev S1x1x512x1 : Shape := ⟨4, ![1, 1, 512, 1]⟩
abbrev S512x496 : Shape := ⟨2, ![512, 496]⟩

abbrev nBuf : Space → Nat
  | .hbm => 96
  | .vmem => 35
  | .smem => 0
  | _ => 0

abbrev bufTy : (tb : Table) → Fin (tcTables nBuf tb) → BufTy
  | .hbm, ⟨0, _⟩ => ⟨S4x4x512x512, .f32⟩
  | .hbm, ⟨1, _⟩ => ⟨S4x512x3, .f32⟩
  | .hbm, ⟨2, _⟩ => ⟨S4x512, .i1⟩
  | .hbm, ⟨3, _⟩ => ⟨S4x4x512, .i1⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S32x3, .f32⟩
  | .hbm, ⟨10, _⟩ => ⟨S32, .f32⟩
  | .hbm, ⟨11, _⟩ => ⟨S32x3, .f32⟩
  | .hbm, ⟨12, _⟩ => ⟨S16x64, .f32⟩
  | .hbm, ⟨13, _⟩ => ⟨S8x16, .f32⟩
  | .hbm, ⟨14, _⟩ => ⟨S512, .i32⟩
  | .hbm, ⟨15, _⟩ => ⟨S512, .i1⟩
  | .hbm, ⟨16, _⟩ => ⟨S512, .i1⟩
  | .hbm, ⟨17, _⟩ => ⟨S4x512x32, .f32⟩
  | .hbm, ⟨18, _⟩ => ⟨S1x1x32, .f32⟩
  | .hbm, ⟨19, _⟩ => ⟨S4x512x32, .f32⟩
  | .hbm, ⟨20, _⟩ => ⟨S4x512x32, .f32⟩
  | .hbm, ⟨21, _⟩ => ⟨S4x512x16, .f32⟩
  | .hbm, ⟨22, _⟩ => ⟨S4x512x16, .f32⟩
  | .hbm, ⟨23, _⟩ => ⟨S4x512x16, .f32⟩
  | .hbm, ⟨24, _⟩ => ⟨S4x512x32, .f32⟩
  | .hbm, ⟨25, _⟩ => ⟨S4x512x32, .f32⟩
  | .hbm, ⟨26, _⟩ => ⟨S4x512x32, .f32⟩
  | .hbm, ⟨27, _⟩ => ⟨S4x512x64, .f32⟩
  | .hbm, ⟨28, _⟩ => ⟨S4x512x16, .f32⟩
  | .hbm, ⟨29, _⟩ => ⟨S_, .f32⟩
  | .hbm, ⟨30, _⟩ => ⟨S4x512x16, .f32⟩
  | .hbm, ⟨31, _⟩ => ⟨S4x512x64, .f32⟩
  | .hbm, ⟨32, _⟩ => ⟨S_, .f32⟩
  | .hbm, ⟨33, _⟩ => ⟨S8x16, .f32⟩
  | .hbm, ⟨34, _⟩ => ⟨S8x16, .f32⟩
  | .hbm, ⟨35, _⟩ => ⟨S1x512, .f32⟩
  | .hbm, ⟨36, _⟩ => ⟨S512x512, .f32⟩
  | .hbm, ⟨37, _⟩ => ⟨S512x512, .f32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S512x512, .f32⟩
  | .hbm, ⟨44, _⟩ => ⟨S1x512, .f32⟩
  | .hbm, ⟨45, _⟩ => ⟨S512x512, .f32⟩
  | .hbm, ⟨46, _⟩ => ⟨S512x512, .f32⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S512x1, .i32⟩
  | .hbm, ⟨52, _⟩ => ⟨S512x512, .f32⟩
  | .hbm, ⟨53, _⟩ => ⟨S1x512, .f32⟩
  | .hbm, ⟨54, _⟩ => ⟨S512x512, .f32⟩
  | .hbm, ⟨55, _⟩ => ⟨S512x512, .f32⟩
  | .hbm, ⟨56, _⟩ => ⟨S4x512, .i32⟩
  | .hbm, ⟨57, _⟩ => ⟨S_, .i32⟩
  | .hbm, ⟨58, _⟩ => ⟨S4x512, .i32⟩
  | .hbm, ⟨59, _⟩ => ⟨S4x512, .i1⟩
  | .hbm, ⟨60, _⟩ => ⟨S4x4x512, .i32⟩
  | .hbm, ⟨61, _⟩ => ⟨S_, .i32⟩
  | .hbm, ⟨62, _⟩ => ⟨S4x4x512, .i32⟩
  | .hbm, ⟨63, _⟩ => ⟨S4x4x512, .i1⟩
  | .hbm, ⟨64, _⟩ => ⟨S4x1x512, .i1⟩
  | .hbm, ⟨65, _⟩ => ⟨S_, .i1⟩
  | .hbm, ⟨66, _⟩ => ⟨S4x4x512, .i1⟩
  | .hbm, ⟨67, _⟩ => ⟨S4x4x512, .i1⟩
  | .hbm, ⟨68, _⟩ => ⟨S4x4x512, .i1⟩
  | .hbm, ⟨69, _⟩ => ⟨S_, .i1⟩
  | .hbm, ⟨70, _⟩ => ⟨S4x1x512, .i1⟩
  | .hbm, ⟨71, _⟩ => ⟨S4x1x512, .i1⟩
  | .hbm, ⟨72, _⟩ => ⟨S4x1x512, .i1⟩
  | .hbm, ⟨73, _⟩ => ⟨S4x4x512, .i1⟩
  | .hbm, ⟨74, _⟩ => ⟨S4x4x512, .i1⟩
  | .hbm, ⟨75, _⟩ => ⟨S4x4x512, .f32⟩
  | .hbm, ⟨76, _⟩ => ⟨S4x4x1x512, .f32⟩
  | .hbm, ⟨77, _⟩ => ⟨S_, .i1⟩
  | .hbm, ⟨78, _⟩ => ⟨S4x4, .i1⟩
  | .hbm, ⟨79, _⟩ => ⟨S4x1x512, .i1⟩
  | .hbm, ⟨80, _⟩ => ⟨S4x4x1, .i1⟩
  | .hbm, ⟨81, _⟩ => ⟨S_, .i1⟩
  | .hbm, ⟨82, _⟩ => ⟨S4x1x512, .i1⟩
  | .hbm, ⟨83, _⟩ => ⟨S4x1x512, .i1⟩
  | .hbm, ⟨84, _⟩ => ⟨S4x1x512, .i1⟩
  | .hbm, ⟨85, _⟩ => ⟨S4x4x512, .i1⟩
  | .hbm, ⟨86, _⟩ => ⟨S4x4x512, .i1⟩
  | .hbm, ⟨87, _⟩ => ⟨S4x4x512, .i1⟩
  | .hbm, ⟨88, _⟩ => ⟨S4x4x512, .f32⟩
  | .hbm, ⟨89, _⟩ => ⟨S4x4x512x1, .f32⟩
  | .hbm, ⟨90, _⟩ => ⟨S4x512x512, .f32⟩
  | .hbm, ⟨91, _⟩ => ⟨S4x512x512, .f32⟩
  | .hbm, ⟨92, _⟩ => ⟨S4x512x512, .f32⟩
  | .hbm, ⟨93, _⟩ => ⟨S4x512x512, .f32⟩
  | .hbm, ⟨94, _⟩ => ⟨S4x512x512, .f32⟩
  | .hbm, ⟨95, _⟩ => ⟨S4x4x512x512, .f32⟩
  | .local _ .vmem, ⟨0, _⟩ => ⟨S1x512x64, .f32⟩
  | .local _ .vmem, ⟨1, _⟩ => ⟨S1x512x64, .f32⟩
  | .local _ .vmem, ⟨2, _⟩ => ⟨S8x16, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x1x1x512, .f32⟩
  | .local _ .vmem, ⟨30, _⟩ => ⟨S1x1x1x512, .f32⟩
  | .local _ .vmem, ⟨31, _⟩ => ⟨S1x1x512x1, .f32⟩
  | .local _ .vmem, ⟨32, _⟩ => ⟨S1x1x512x1, .f32⟩
  | .local _ .vmem, ⟨33, _⟩ => ⟨S1x1x512x512, .f32⟩
  | .local _ .vmem, ⟨34, _⟩ => ⟨S1x1x512x512, .f32⟩
  | _, _ => ⟨S4x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev main_v63_2 : Ref sig .tc := ⟨.hbm, 92, rfl⟩
abbrev main_v63_3 : Ref sig .tc := ⟨.hbm, 93, rfl⟩
abbrev main_v63_4 : Ref sig .tc := ⟨.hbm, 94, rfl⟩
abbrev main_v64 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33
abbrev cc1_sem12_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S4x4x512x512 : Shape := ⟨4, ![4, 4, 512, 512]⟩
abbrev S4x512x3 : Shape := ⟨3, ![4, 512, 3]⟩
abbrev S4x512 : Shape := ⟨2, ![4, 512]⟩
abbrev S4x4x512 : Shape := ⟨3, ![4, 4, 512]⟩
abbrev S512x512 : Shape := ⟨2, ![512, 512]⟩
abbrev S512 : Shape := ⟨1, ![512]⟩
abbrev S32x3 : Shape := ⟨2, ![32, 3]⟩
abbrev S32 : Shape := ⟨1, ![32]⟩
abbrev S16x64 : Shape := ⟨2, ![16, 64]⟩
abbrev S8x16 : Shape := ⟨2, ![8, 16]⟩
abbrev S_ : Shape := ⟨0, ![]⟩
abbrev S4x4x512x1 : Shape := ⟨4, ![4, 4, 512, 1]⟩
abbrev S1x1x1x512 : Shape := ⟨4, ![1, 1, 1, 512]⟩
abbrev S4x512x32 : Shape := ⟨3, ![4, 512, 32]⟩
abbrev S1x1x32 : Shape := ⟨3, ![1, 1, 32]⟩
abbrev S4x512x64 : Shape := ⟨3, ![4, 512, 64]⟩
abbrev S4x4x512x8x64 : Shape := ⟨5, ![4, 4, 512, 8, 64]⟩
abbrev S4x512x16 : Shape := ⟨3, ![4, 512, 16]⟩
abbrev S4x1x512x16 : Shape := ⟨4, ![4, 1, 512, 16]⟩
abbrev S4x1x512x1x16 : Shape := ⟨5, ![4, 1, 512, 1, 16]⟩
abbrev S4x4x512x8x16 : Shape := ⟨5, ![4, 4, 512, 8, 16]⟩
abbrev S4x4x512x8x16x1 : Shape := ⟨6, ![4, 4, 512, 8, 16, 1]⟩
abbrev S4x4x512x8x16x2 : Shape := ⟨6, ![4, 4, 512, 8, 16, 2]⟩
abbrev S4x4x512x8x32 : Shape := ⟨5, ![4, 4, 512, 8, 32]⟩
abbrev S1x1x8x16 : Shape := ⟨4, ![1, 1, 8, 16]⟩
abbrev S4x512x1x16 : Shape := ⟨4, ![4, 512, 1, 16]⟩
abbrev S4x512x8x16 : Shape := ⟨4, ![4, 512, 8, 16]⟩
abbrev S4x1x512x8x16 : Shape := ⟨5, ![4, 1, 512, 8, 16]⟩
abbrev S1 : Shape := ⟨1, ![1]⟩
abbrev S4x1x512 : Shape := ⟨3, ![4, 1, 512]⟩
abbrev S4x4x8x512x512 : Shape := ⟨5, ![4, 4, 8, 512, 512]⟩
abbrev S4x4x1x1x512 : Shape := ⟨5, ![4, 4, 1, 1, 512]⟩
abbrev S4x4x8x512 : Shape := ⟨4, ![4, 4, 8, 512]⟩
abbrev S4x4x8x512x1 : Shape := ⟨5, ![4, 4, 8, 512, 1]⟩
abbrev S4x4 : Shape := ⟨2, ![4, 4]⟩
abbrev S4x4x1x1x1 : Shape := ⟨5, ![4, 4, 1, 1, 1]⟩
abbrev S4x4x8x64x512 : Shape := ⟨5, ![4, 4, 8, 64, 512]⟩
abbrev S4x1x512x1 : Shape := ⟨4, ![4, 1, 512, 1]⟩

abbrev nBuf : Space → Nat
  | .hbm => 162
  | .vmem => 0
  | .smem => 0
  | _ => 0

abbrev hbmTy0_0 (i : Nat) : BufTy := match i % 128 with
  | 0 => ⟨S4x4x512x512, .f32⟩
  | 1 => ⟨S4x512x3, .f32⟩
  | 2 => ⟨S4x512, .i1⟩
  | 3 => ⟨S4x4x512, .i1⟩
  | 4 => ⟨S512x512, .f32⟩
  | 5 => ⟨S512x512, .f32⟩
  | 6 => ⟨S512x512, .f32⟩
  | 7 => ⟨S512x512, .f32⟩
  | 8 => ⟨S512, .f32⟩
  | 9 => ⟨S32x3, .f32⟩
  | 10 => ⟨S32, .f32⟩
  | 11 => ⟨S32x3, .f32⟩
  | 12 => ⟨S16x64, .f32⟩
  | 13 => ⟨S8x16, .f32⟩
  | 14 => ⟨S4x4x512x512, .f32⟩
  | 15 => ⟨S_, .f32⟩
  | 16 => ⟨S4x4x512, .f32⟩
  | 17 => ⟨S4x4x512x1, .f32⟩
  | 18 => ⟨S_, .f32⟩
  | 19 => ⟨S4x4x512x1, .f32⟩
  | 20 => ⟨S4x4x512x1, .f32⟩
  | 21 => ⟨S_, .f32⟩
  | 22 => ⟨S4x4x512x1, .f32⟩
  | 23 => ⟨S4x4x512x1, .f32⟩
  | 24 => ⟨S4x4x512x1, .f32⟩
  | 25 => ⟨S4x4x512x512, .f32⟩
  | 26 => ⟨S4x4x512x512, .f32⟩
  | 27 => ⟨S1x1x1x512, .f32⟩
  | 28 => ⟨S4x4x512x512, .f32⟩
  | 29 => ⟨S4x4x512x512, .f32⟩
  | 30 => ⟨S4x512x32, .f32⟩
  | 31 => ⟨S1x1x32, .f32⟩
  | 32 => ⟨S4x512x32, .f32⟩
  | 33 => ⟨S4x512x32, .f32⟩
  | 34 => ⟨S4x512x32, .f32⟩
  | 35 => ⟨S4x512x32, .f32⟩
  | 36 => ⟨S4x512x32, .f32⟩
  | 37 => ⟨S4x512x64, .f32⟩
  | 38 => ⟨S4x4x512x512, .f32⟩
  | 39 => ⟨S4x4x512x8x64, .f32⟩
  | 40 => ⟨S4x4x512x512, .f32⟩
  | 41 => ⟨S4x4x512x8x64, .f32⟩
  | 42 => ⟨S4x4x512x512, .f32⟩
  | 43 => ⟨S4x4x512x8x64, .f32⟩
  | 44 => ⟨S4x512x16, .f32⟩
  | 45 => ⟨S4x1x512x16, .f32⟩
  | 46 => ⟨S4x1x512x16, .f32⟩
  | 47 => ⟨S4x1x512x1x16, .f32⟩
  | 48 => ⟨S4x1x512x16, .f32⟩
  | 49 => ⟨S4x1x512x1x16, .f32⟩
  | 50 => ⟨S4x4x512x8x16, .f32⟩
  | 51 => ⟨S4x4x512x8x16, .f32⟩
  | 52 => ⟨S4x4x512x8x16, .f32⟩
  | 53 => ⟨S4x4x512x8x16, .f32⟩
  | 54 => ⟨S4x4x512x8x16, .f32⟩
  | 55 => ⟨S4x4x512x8x16, .f32⟩
  | 56 => ⟨S4x4x512x8x16, .f32⟩
  | 57 => ⟨S4x4x512x8x16, .f32⟩
  | 58 => ⟨S4x4x512x8x16, .f32⟩
  | 59 => ⟨S4x4x512x8x16, .f32⟩
  | 60 => ⟨S4x4x512x8x16, .f32⟩
  | 61 => ⟨S4x4x512x8x16, .f32⟩
  | 62 => ⟨S4x4x512x8x16x1, .f32⟩
  | 63 => ⟨S4x4x512x8x16x1, .f32⟩
  | 64 => ⟨S4x4x512x8x16x2, .f32⟩
  | 65 => ⟨S4x4x512x8x32, .f32⟩
  | 66 => ⟨S4x4x512x8x32, .f32⟩
  | 67 => ⟨S4x4x512x8x64, .f32⟩
  | 68 => ⟨S4x4x512x8x16, .f32⟩
  | 69 => ⟨S4x4x512x8x16, .f32⟩
  | 70 => ⟨S4x4x512x8x16, .f32⟩
  | 71 => ⟨S4x4x512x8x16, .f32⟩
  | 72 => ⟨S4x4x512x8x16, .f32⟩
  | 73 => ⟨S4x4x512x8x16, .f32⟩
  | 74 => ⟨S4x4x512x8x16, .f32⟩
  | 75 => ⟨S4x4x512x8x16, .f32⟩
  | 76 => ⟨S4x4x512x8x16, .f32⟩
  | 77 => ⟨S4x4x512x8x16, .f32⟩
  | 78 => ⟨S4x4x512x8x16, .f32⟩
  | 79 => ⟨S4x4x512x8x16, .f32⟩
  | 80 => ⟨S4x4x512x8x16x1, .f32⟩
  | 81 => ⟨S4x4x512x8x16x1, .f32⟩
  | 82 => ⟨S4x4x512x8x16x2, .f32⟩
  | 83 => ⟨S4x4x512x8x32, .f32⟩
  | 84 => ⟨S4x4x512x8x32, .f32⟩
  | 85 => ⟨S4x4x512x8x64, .f32⟩
  | 86 => ⟨S4x512x16, .f32⟩
  | 87 => ⟨S1x1x8x16, .f32⟩
  | 88 => ⟨S_, .f32⟩
  | 89 => ⟨S1x1x8x16, .f32⟩
  | 90 => ⟨S1x1x8x16, .f32⟩
  | 91 => ⟨S4x512x1x16, .f32⟩
  | 92 => ⟨S4x512x8x16, .f32⟩
  | 93 => ⟨S4x512x8x16, .f32⟩
  | 94 => ⟨S4x512x8x16, .f32⟩
  | 95 => ⟨S4x1x512x8x16, .f32⟩
  | 96 => ⟨S4x4x512x8x16, .f32⟩
  | 97 => ⟨S_, .i32⟩
  | 98 => ⟨S1, .i32⟩
  | 99 => ⟨S4x4x512x8x64, .f32⟩
  | 100 => ⟨S4x1x512x1x16, .f32⟩
  | 101 => ⟨S4x4x512x8x16, .f32⟩
  | 102 => ⟨S_, .i32⟩
  | 103 => ⟨S1, .i32⟩
  | 104 => ⟨S4x4x512x8x64, .f32⟩
  | 105 => ⟨S4x512, .i32⟩
  | 106 => ⟨S_, .i32⟩
  | 107 => ⟨S4x512, .i32⟩
  | 108 => ⟨S4x512, .i1⟩
  | 109 => ⟨S4x4x512, .i32⟩
  | 110 => ⟨S_, .i32⟩
  | 111 => ⟨S4x4x512, .i32⟩
  | 112 => ⟨S4x4x512, .i1⟩
  | 113 => ⟨S4x1x512, .i1⟩
  | 114 => ⟨S_, .i1⟩
  | 115 => ⟨S4x4x512, .i1⟩
  | 116 => ⟨S4x4x512, .i1⟩
  | 117 => ⟨S4x4x512, .i1⟩
  | 118 => ⟨S_, .i1⟩
  | 119 => ⟨S4x1x512, .i1⟩
  | 120 => ⟨S4x1x512, .i1⟩
  | 121 => ⟨S4x1x512, .i1⟩
  | 122 => ⟨S4x4x512, .i1⟩
  | 123 => ⟨S4x4x512, .i1⟩
  | 124 => ⟨S4x4x8x512x512, .f32⟩
  | 125 => ⟨S_, .f32⟩
  | 126 => ⟨S4x4x8x512x512, .f32⟩
  | 127 => ⟨S4x4x8x512x512, .f32⟩
  | _ => ⟨S4x4x512x512, .f32⟩

abbrev hbmTy0_1 (i : Nat) : BufTy := match i % 128 with
  | 0 => ⟨S4x4x1x1x512, .i1⟩
  | 1 => ⟨S_, .f32⟩
  | 2 => ⟨S_, .f32⟩
  | 3 => ⟨S4x4x8x512x512, .i1⟩
  | 4 => ⟨S4x4x8x512x512, .f32⟩
  | 5 => ⟨S4x4x8x512x512, .f32⟩
  | 6 => ⟨S_, .f32⟩
  | 7 => ⟨S4x4x8x512, .f32⟩
  | 8 => ⟨S_, .f32⟩
  | 9 => ⟨S4x4x8x512, .f32⟩
  | 10 => ⟨S4x4x8x512, .f32⟩
  | 11 => ⟨S4x4x8x512x1, .f32⟩
  | 12 => ⟨S4x4x8x512x512, .f32⟩
  | 13 => ⟨S4x4x8x512x512, .f32⟩
  | 14 => ⟨S4x4x8x512x512, .f32⟩
  | 15 => ⟨S_, .f32⟩
  | 16 => ⟨S4x4x8x512, .f32⟩
  | 17 => ⟨S4x4x8x512x1, .f32⟩
  | 18 => ⟨S4x4x8x512x512, .f32⟩
  | 19 => ⟨S4x4x8x512x512, .f32⟩
  | 20 => ⟨S_, .i1⟩
  | 21 => ⟨S4x4, .i1⟩
  | 22 => ⟨S4x4, .f32⟩
  | 23 => ⟨S4x4x1x1x1, .f32⟩
  | 24 => ⟨S4x4x8x512x512, .f32⟩
  | 25 => ⟨S4x4x8x512x512, .f32⟩
  | 26 => ⟨S4x4x8x64x512, .f32⟩
  | 27 => ⟨S4x4x512x8x64, .f32⟩
  | 28 => ⟨S4x4x512x512, .f32⟩
  | 29 => ⟨S4x4x512x512, .f32⟩
  | 30 => ⟨S4x1x512x1, .i1⟩
  | 31 => ⟨S4x1x512x1, .f32⟩
  | 32 => ⟨S4x4x512x512, .f32⟩
  | 33 => ⟨S4x4x512x512, .f32⟩
  | _ => ⟨S4x4x512x512, .f32⟩

abbrev hbmTy (i : Nat) : BufTy := match i / 128 with
  | 0 => hbmTy0_0 i
  | 1 => hbmTy0_1 i
  | _ => ⟨S4x4x512x512, .f32⟩

abbrev bufTy : (tb : Table) → Fin (tcTables nBuf tb) → BufTy
  | .hbm, ⟨i, _⟩ => hbmTy i
  | _, _ => ⟨S4x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_2 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_3 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_4 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_c_5 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_6 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_7 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_8 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_9 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_v104 : Ref sig .tc := ⟨.hbm, 133, rfl⟩
abbrev main_cst_10 : Ref sig .tc := ⟨.hbm, 134, rfl⟩
abbrev main_v105 : Ref sig .tc := ⟨.hbm, 135, rfl⟩
abbrev main_cst_11 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_12 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_13 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩

abbrev nD : Nat := 1
abbrev τ : Topo := Topo.v7x

variable {F : FTy → Type} [FloatOps F]
-- ==== Proof.KRun.lean ====
/- The optimised program's run: its result is the array that the last region leaves, its arguments and counters end as they began. -/
module

public import proofs.«01_k».proof.Proof.Gen.KernelIdeal.Frame

@[expose] public section

set_option maxRecDepth 16384

noncomputable section

namespace Cert.KernelIdeal.KRun

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable (m : (i : Loc nD τ sig) → Buf (Elt Ideal) i) (ρ : Dev nD → PrngReg)

/-- The program ends, with the last region's array as its result, its arguments unchanged and every counter at zero. -/
theorem run : θ_run defs (onTc (τ := τ) (main (F := Ideal))) ⟨m, fun _ => 0, ρ⟩ (fun r => (∀ c : Dev nD,
      r.2.mem ((c.tc : Thread nD τ).loc main_v64) = W3 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v64 (by decide))),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩), funext fun g => hz g (.inr (no_unscoped g.2))⟩)

end Cert.KernelIdeal.KRun

end
-- ==== Proof.Spec.lean ====
/- The mathematics of the attention program, over the extended reals and plain indices. No program is named here:
   `Opt…` are the formulas that the optimised program follows, `Ref…` those of the plain one. -/
module

public import Idealize.ShloMosaic.PureOps.Ideal.Laws

@[expose] public section

noncomputable section

namespace Cert.Attn

open Idealize.ShloMosaic

/-- A 512 by 512 matrix of extended reals. -/
abbrev Mat := Fin 512 → Fin 512 → EReal

/-- Lane `i` of head `h` among the 512 lanes. -/
abbrev lane (h : Fin 8) (i : Fin 64) : Fin 512 := ⟨64 * h.val + i.val, by omega⟩
/-- The head of a lane. -/
abbrev headOf (c : Fin 512) : Fin 8 := ⟨c.val / 64, by omega⟩
/-- A lane's place within its head. -/
abbrev inHead (c : Fin 512) : Fin 64 := ⟨c.val % 64, by omega⟩

/-- The row length 512 as the programs write it. -/
def c512 : EReal := Ideal.ofBits .f32 0x44000000#32
/-- The programs' small constant under the root. -/
def cEps : EReal := Ideal.ofBits .f32 0x358637BD#32
/-- One eighth, the scale of the scores. -/
def cScale : EReal := Ideal.ofBits .f32 0x3E000000#32
/-- One tenth, the scale of the positional gains. -/
def cPos : EReal := Ideal.ofBits .f32 0x3DCCCCCD#32

/-- A row divided by its root mean square. -/
def norm (x : Mat) : Mat := fun r d => x r d * Ideal.rsqrt (Ideal.div (∑ k, x r k * x r k) c512 + cEps)

/-- The lane sixteen to the right, around the end. -/
abbrev right16 (c : Fin 512) : Fin 512 := ⟨(c.val + 16) % 512, Nat.mod_lt _ (by omega)⟩
/-- The lane sixteen to the left, around the end. -/
abbrev left16 (c : Fin 512) : Fin 512 := ⟨(c.val + 496) % 512, Nat.mod_lt _ (by omega)⟩

/-- A matrix against the transpose of another. -/
def mulT (a w : Mat) : Mat := fun r c => ∑ k, a r k * w c k

/-! ## The operands of one batch entry and one time, and what both programs make of them -/

/-- The operands, at one batch entry and one time. -/
structure Ops where
  /-- The rows. -/
  x : Mat
  /-- The points' positions. -/
  pp : Fin 512 → Fin 3 → EReal
  /-- Which points are there. -/
  pad : Fin 512 → BitVec 1
  /-- Which points spike. -/
  spike : Fin 512 → BitVec 1
  /-- The query, key, value and output matrices. -/
  wq : Mat
  wk : Mat
  wv : Mat
  wo : Mat
  /-- The normalisation's weights. -/
  w : Fin 512 → EReal
  /-- The rotation's directions and frequencies. -/
  dirs : Fin 32 → Fin 3 → EReal
  freqs : Fin 32 → EReal
  /-- The random features and their mixing. -/
  omega : Fin 32 → Fin 3 → EReal
  mix : Fin 16 → Fin 64 → EReal
  /-- The heads' gains. -/
  gain : Fin 8 → Fin 16 → EReal

/-- The rotation angle of a row. -/
def angle (I : Ops) (r : Fin 512) (f : Fin 32) : EReal := (∑ k, I.pp r k * I.dirs f k) * I.freqs f
/-- The phase of a random feature. -/
def phase (I : Ops) (r : Fin 512) (f : Fin 32) : EReal := ∑ k, I.pp r k * I.omega f k
/-- Cosines and then sines of the phases. -/
def phi (I : Ops) (r : Fin 512) (d : Fin 64) : EReal :=
  if h : d.val < 32 then Ideal.cos (phase I r ⟨d.val, h⟩) else Ideal.sin (phase I r ⟨d.val - 32, by omega⟩)
/-- The positional features. -/
def posFeat (I : Ops) (r : Fin 512) (p : Fin 16) : EReal := ∑ d, phi I r d * I.mix p d
/-- The positional features with the cosines' part and the sines' part apart. -/
theorem posFeat_split (I : Ops) (r : Fin 512) (p : Fin 16) :
    posFeat I r p = (∑ x : Fin 32, Ideal.cos (phase I r x) * I.mix p ⟨x.val, by omega⟩)
      + ∑ x : Fin 32, Ideal.sin (phase I r x) * I.mix p ⟨32 + x.val, by omega⟩ := by
  unfold posFeat
  refine (Fin.sum_univ_add (a := 32) (b := 32) fun d => phi I r d * I.mix p d).trans ?_
  refine congrArg₂ (· + ·) (Finset.sum_congr rfl fun x _ => ?_) (Finset.sum_congr rfl fun x _ => ?_)
  · rw [phi, dif_pos (by simp)]; rfl
  · rw [phi, dif_neg (by simp)]
    have h : (⟨(Fin.natAdd 32 x).val - 32, by omega⟩ : Fin 32) = x := Fin.ext (by simp)
    rw [h]; rfl
/-- A point that is there and spikes: a key. -/
abbrev isKey (I : Ops) (m : Fin 512) : Prop := I.spike m = 1#1 ∧ I.pad m = 1#1
/-- Some point is a key. -/
abbrev hasKey (I : Ops) : Prop := ∃ m, isKey I m

/-- The first half of the frequencies. -/
abbrev low (l : Fin 16) : Fin 32 := ⟨l.val, by omega⟩

/-- The features that the plane kernel reads: cosines, sines, positional features, nothing. -/
def feature (I : Ops) (r : Fin 512) (d : Fin 64) : EReal :=
  if h : d.val < 16 then Ideal.cos (angle I r (low ⟨d.val, h⟩))
  else if h : d.val - 16 < 16 then Ideal.sin (angle I r (low ⟨d.val - 16, h⟩))
  else if h : d.val - 16 - 16 < 16 then posFeat I r ⟨d.val - 16 - 16, h⟩ else 0

/-- The row of the reference's weight matrix that a lane of the optimised program reads: within a head the even
    ones of the first thirty-two, then the odd ones, then the rest. -/
def permLane (i : Fin 64) : Fin 64 :=
  if h : i.val < 16 then ⟨2 * i.val, by omega⟩ else if h : i.val < 32 then ⟨2 * (i.val - 16) + 1, by omega⟩ else i
/-- The same among all lanes. -/
def perm (c : Fin 512) : Fin 512 := lane (headOf c) (permLane (inHead c))

/-! ## The optimised program's rotation planes -/

/-- A lane's place within its sixteen. -/
abbrev sub16 (c : Fin 512) : Fin 16 := ⟨c.val % 16, by omega⟩
/-- Which sixteen of its head a lane lies in. -/
abbrev quarter (c : Fin 512) : Fin 4 := ⟨c.val / 16 % 4, by omega⟩
/-- Column `l` of feature group `k`. -/
abbrev fcol (k : Fin 4) (l : Fin 16) : Fin 64 := ⟨16 * k.val + l.val, by omega⟩

/-- The plane that multiplies a lane itself. -/
def PlaneA (f : Fin 512 → Fin 64 → EReal) : Mat := fun r c =>
  ![f r (fcol 0 (sub16 c)), f r (fcol 0 (sub16 c)) - f r (fcol 1 (sub16 c)) * f r (fcol 1 (sub16 c)), 1, 0] (quarter c)
/-- The plane that multiplies the lane sixteen to the right. -/
def PlaneL (f : Fin 512 → Fin 64 → EReal) : Mat := fun r c => ![0 - f r (fcol 1 (sub16 c)), 0, 0, 0] (quarter c)
/-- The plane that multiplies the lane sixteen to the left. -/
def PlaneR (f : Fin 512 → Fin 64 → EReal) : Mat := fun r c => ![0, f r (fcol 0 (sub16 c)) * f r (fcol 1 (sub16 c)), 0, 0] (quarter c)
/-- The queries' positional tail, scaled by each head's gains. -/
def PlaneQ (f : Fin 512 → Fin 64 → EReal) (g : Fin 8 → Fin 16 → EReal) : Mat := fun r c =>
  ![0, 0, 0, g (headOf c) (sub16 c) * f r (fcol 2 (sub16 c))] (quarter c)
/-- The keys' positional tail. -/
def PlaneK (f : Fin 512 → Fin 64 → EReal) : Mat := fun r c => ![0, 0, 0, f r (fcol 2 (sub16 c))] (quarter c)

/-! ## The optimised program's attention -/

/-- The rotation as three planes and two rolls by sixteen lanes, and the positional tail. -/
def OptRot (q A Bl Br T : Mat) : Mat := fun r c =>
  q r c * A r c + q r (right16 c) * Bl r c + q r (left16 c) * Br r c + T r c
/-- The scores of one head, with the mask as a summand. -/
def OptScore (q k : Mat) (b : Fin 512 → EReal) (h : Fin 8) : Mat := fun r m =>
  (∑ i : Fin 64, q r (lane h i) * k m (lane h i)) * cScale + b m
/-- The greatest entry of each row. -/
def rowMax (s : Mat) (r : Fin 512) : EReal := (Finset.univ : Finset (Fin 512)).fold max ⊥ fun m => s r m
/-- The exponentials of a row's entries less its greatest. -/
def expo (s : Mat) : Mat := fun r m => Ideal.exp (s r m - rowMax s r)
/-- One head's output: the weighted sum of values, divided at the end. -/
def OptHead (q k v : Mat) (b : Fin 512 → EReal) (h : Fin 8) (r : Fin 512) (j : Fin 64) : EReal :=
  (∑ m, expo (OptScore q k b h) r m * v m (lane h j)) * Ideal.div 1 (∑ m, expo (OptScore q k b h) r m)
/-- The mask as a summand, from the indicator of the keys. -/
def OptBias (sp : Fin 512 → EReal) : Fin 512 → EReal := fun m => if sp m ≠ 0 then 0 else ⊥
/-- The attention of one batch entry and time, from the normalised rows on. -/
def OptAttn (x wq wk wv wo A Bl Br Tq Tk : Mat) (sp om : Fin 512 → EReal) : Mat := fun r e =>
  (∑ c : Fin 512, OptHead (OptRot (mulT (norm x) wq) A Bl Br Tq) (OptRot (mulT (norm x) wk) A Bl Br Tk) (mulT (norm x) wv)
      (OptBias sp) (headOf c) r (inHead c) * wo e c) * om r

/-- One where `p` holds, else zero. -/
def ind (p : Prop) : EReal := open Classical in if p then 1 else 0
/-- It is one where `p` holds. -/
theorem ind_pos {p : Prop} (h : p) : ind p = 1 := if_pos h
/-- It is zero where `p` fails. -/
theorem ind_neg {p : Prop} (h : ¬p) : ind p = 0 := if_neg h

/-- The optimised program's result, from the operands. -/
def Opt (I : Ops) : Mat :=
  OptAttn I.x (fun c d => I.wq (perm c) d * I.w d) (fun c d => I.wk (perm c) d * I.w d) (fun c d => I.wv c d * I.w d) I.wo
    (PlaneA (feature I)) (PlaneL (feature I)) (PlaneR (feature I)) (PlaneQ (feature I) fun h l => cPos * I.gain h l) (PlaneK (feature I))
    (fun m => ind (isKey I m)) (fun r => ind (I.pad r = 1#1 ∧ hasKey I))

/-! ## The reference -/

/-- The normalised rows with their weights. -/
def normW (I : Ops) : Mat := fun r d => norm I.x r d * I.w d
/-- The rotated even lane `2 j` of head `h`. -/
def RefEven (I : Ops) (p : Mat) (r : Fin 512) (h : Fin 8) (j : Fin 16) : EReal :=
  p r (lane h ⟨2 * j.val, by omega⟩) * Ideal.cos (angle I r (low j)) - p r (lane h ⟨1 + 2 * j.val, by omega⟩) * Ideal.sin (angle I r (low j))
/-- The rotated odd lane `1 + 2 j`, from the even lane already rotated. -/
def RefOdd (I : Ops) (p : Mat) (r : Fin 512) (h : Fin 8) (j : Fin 16) : EReal :=
  RefEven I p r h j * Ideal.sin (angle I r (low j)) + p r (lane h ⟨1 + 2 * j.val, by omega⟩) * Ideal.cos (angle I r (low j))
/-- The rotation of the first thirty-two lanes of each head; the other lanes stay. -/
def RefRot (I : Ops) (p : Mat) (r : Fin 512) (h : Fin 8) (i : Fin 64) : EReal :=
  if hi : i.val < 32 then
    if i.val % 2 < 1 then RefEven I p r h ⟨i.val / 2, by omega⟩ else RefOdd I p r h ⟨i.val / 2, by omega⟩
  else p r (lane h i)
/-- The rotation, and the positional tail in the last sixteen lanes. -/
def RefTail (I : Ops) (p : Mat) (tail : Fin 8 → Fin 16 → EReal) (r : Fin 512) (h : Fin 8) (i : Fin 64) : EReal :=
  if hi : i.val < 48 then RefRot I p r h i else tail h ⟨i.val - 48, by omega⟩
/-- The queries. -/
def RefQ (I : Ops) (r : Fin 512) (h : Fin 8) (i : Fin 64) : EReal :=
  RefTail I (mulT (normW I) I.wq) (fun h l => cPos * I.gain h l * posFeat I r l) r h i
/-- The keys. -/
def RefK (I : Ops) (r : Fin 512) (h : Fin 8) (i : Fin 64) : EReal :=
  RefTail I (mulT (normW I) I.wk) (fun _ l => posFeat I r l) r h i
/-- The masked scores of one head. -/
def RefScore (I : Ops) (h : Fin 8) : Mat := fun r m =>
  if isKey I m then (∑ i : Fin 64, RefQ I r h i * RefK I m h i) * cScale else ⊥
/-- The softmax of the scores, nought where there is no key. -/
def RefProb (I : Ops) (h : Fin 8) : Mat := fun r m =>
  Ideal.div (expo (RefScore I h) r m) (∑ k, expo (RefScore I h) r k) * ind (hasKey I)
/-- The reference's result, from the operands. -/
def Ref (I : Ops) : Mat := fun r e =>
  (∑ c : Fin 512, (∑ m : Fin 512, mulT (normW I) I.wv m (lane (headOf c) (inHead c)) * RefProb I (headOf c) r m) * I.wo e c)
    * ind (I.pad r = 1#1)

end Cert.Attn

end
-- ==== Proof.Head.lean ====
/- The attention kernel's straight-line pieces, read at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Head

open Cert.KernelIdeal Cert.KernelIdeal.Gen Cert.Attn Idealize.ShloMosaic Idealize.ShloMosaic.TcCoe

/-- A block of 512 rows and lanes as a matrix. -/
abbrev mat (v : Vec Ideal S512x512 .f32) : Mat := fun r c => v (ix2 r c)

/-- The bits of minus infinity. -/
theorem ofBits_bot : Ideal.ofBits .f32 0xFF800000#32 = ⊥ := by simp [Ideal.ofBits, Ideal.ieee]

variable (v20 v40 v54 : FVec Ideal S512x512 .f32) (v61 : FVec Ideal S1x512 .f32) (r : Fin 512) (j : Fin 64)

/-- The second head. -/
theorem pay16_apply : k1_pay16 v20 v40 v54 v61 (ix2 r j) = OptHead (mat v40) (mat v54) (mat v20) (fun m => v61 (ix2 0 m)) 1 r j := by
  pointwise [k1_pay16]
  rw [ofBits_bot]; rfl
/-- The third head. -/
theorem pay17_apply : k1_pay17 v20 v40 v54 v61 (ix2 r j) = OptHead (mat v40) (mat v54) (mat v20) (fun m => v61 (ix2 0 m)) 2 r j := by
  pointwise [k1_pay17]
  rw [ofBits_bot]; rfl
/-- The fourth head. -/
theorem pay18_apply : k1_pay18 v20 v40 v54 v61 (ix2 r j) = OptHead (mat v40) (mat v54) (mat v20) (fun m => v61 (ix2 0 m)) 3 r j := by
  pointwise [k1_pay18]
  rw [ofBits_bot]; rfl
/-- The fifth head. -/
theorem pay19_apply : k1_pay19 v20 v40 v54 v61 (ix2 r j) = OptHead (mat v40) (mat v54) (mat v20) (fun m => v61 (ix2 0 m)) 4 r j := by
  pointwise [k1_pay19]
  rw [ofBits_bot]; rfl
/-- The sixth head, from its scaled products and its mask row. -/
theorem pay22_apply : k1_pay22 v20 (k1_pay20 v40 v54) (k1_pay21 v61) (ix2 r j)
    = OptHead (mat v40) (mat v54) (mat v20) (fun m => v61 (ix2 0 m)) 5 r j := by
  pointwise [k1_pay22, k1_pay20, k1_pay21]
  rw [ofBits_bot]; rfl
/-- The seventh head. -/
theorem pay23_apply : k1_pay23 v20 v40 v54 v61 (ix2 r j) = OptHead (mat v40) (mat v54) (mat v20) (fun m => v61 (ix2 0 m)) 6 r j := by
  pointwise [k1_pay23]
  rw [ofBits_bot]; rfl
/-- The last head's exponentials. -/
theorem pay24_apply (m : Fin 512) : k1_pay24 v40 v54 v61 (ix2 r m) = expo (OptScore (mat v40) (mat v54) (fun m => v61 (ix2 0 m)) 7) r m := by
  pointwise [k1_pay24]
  rw [ofBits_bot]; rfl
/-- The first head's exponentials. -/
theorem pay13_apply (v14 v17 v22 v24 v26 v32 : FVec Ideal S512x512 .f32) (v38 v52 : Vec Ideal S1x512x512 .f32)
    (v55 : Vec Ideal S1x1x1x512 .f32) (m : Fin 512) :
    k1_pay13 v14 v17 v22 v24 v26 v32 v38 v52 v55 (ix2 r m)
      = expo (OptScore (mat (k1_pay10 v14 v26 v32 v38)) (mat (k1_pay11 v17 v22 v24 v26 v52))
          (fun m => k1_pay12 (F := Ideal) v55 (ix2 0 m)) 0) r m := by
  unfold k1_pay13
  generalize k1_pay10 v14 v26 v32 v38 = a
  generalize k1_pay11 v17 v22 v24 v26 v52 = b
  generalize k1_pay12 (F := Ideal) v55 = d
  pointwise []
  rw [ofBits_bot]; rfl
/-- The first head, from its exponentials. -/
theorem pay15_apply (v14 v17 v22 v24 v26 v32 : FVec Ideal S512x512 .f32) (v38 v52 : Vec Ideal S1x512x512 .f32)
    (v55 : Vec Ideal S1x1x1x512 .f32) :
    k1_pay15 v20 (k1_pay13 v14 v17 v22 v24 v26 v32 v38 v52 v55) (k1_pay14 v14 v17 v22 v24 v26 v32 v38 v52 v55) (ix2 r j)
      = OptHead (mat (k1_pay10 v14 v26 v32 v38)) (mat (k1_pay11 v17 v22 v24 v26 v52)) (mat v20)
          (fun m => k1_pay12 (F := Ideal) v55 (ix2 0 m)) 0 r j := by
  have h := pay13_apply (v14 := v14) (v17 := v17) (v22 := v22) (v24 := v24) (v26 := v26) (v32 := v32) (v38 := v38) (v52 := v52) (v55 := v55)
  unfold k1_pay14
  generalize k1_pay13 v14 v17 v22 v24 v26 v32 v38 v52 v55 = e at h ⊢
  pointwise [k1_pay15]
  simp only [h]
  have hj (m : Fin 512) : (ix2 m ⟨j.val, by omega⟩ : S512x512.Idx) = ix2 m (lane 0 j) := by
    congr 1; exact Fin.ext (by simp)
  simp only [hj]
  rfl
/-- The mask row is nothing where the indicator is set and minus infinity elsewhere. -/
theorem pay12_apply (v55 : Vec Ideal S1x1x1x512 .f32) (m : Fin 512) :
    k1_pay12 (F := Ideal) v55 (ix2 0 m) = OptBias (fun m => v55 (ix4 0 0 0 m)) m := by
  pointwise [k1_pay12]
  rfl
/-- Eight pieces of sixty-four lanes side by side, read at a lane. -/
theorem ladder (f : Fin 8 → Fin 64 → EReal) (c : Fin 512) :
    (if h : c.val < 64 then f 0 ⟨c.val, by omega⟩
      else if h : c.val - 64 < 64 then f 1 ⟨c.val - 64, by omega⟩
      else if h : c.val - 64 - 64 < 64 then f 2 ⟨c.val - 64 - 64, by omega⟩
      else if h : c.val - 64 - 64 - 64 < 64 then f 3 ⟨c.val - 64 - 64 - 64, by omega⟩
      else if h : c.val - 64 - 64 - 64 - 64 < 64 then f 4 ⟨c.val - 64 - 64 - 64 - 64, by omega⟩
      else if h : c.val - 64 - 64 - 64 - 64 - 64 < 64 then f 5 ⟨c.val - 64 - 64 - 64 - 64 - 64, by omega⟩
      else if h : c.val - 64 - 64 - 64 - 64 - 64 - 64 < 64 then f 6 ⟨c.val - 64 - 64 - 64 - 64 - 64 - 64, by omega⟩
      else f 7 ⟨c.val - 64 - 64 - 64 - 64 - 64 - 64 - 64, by omega⟩) = f (headOf c) (inHead c) := by
  have e (h : Fin 8) (i : Fin 64) (hh : h.val = c.val / 64) (hi : i.val = c.val % 64) : f h i = f (headOf c) (inHead c) :=
    congrArg₂ f (Fin.ext hh) (Fin.ext hi)
  split_ifs <;> exact e _ _ (by simp; omega) (by simp; omega)
/-- The heads side by side, the output matrix and the mask of rows. -/
theorem pay1_apply (v81 v101 v121 v141 v161 v181 v201 : FVec Ideal S512x64 .f32) (v213 : FVec Ideal S512x512 .f32) (v223 : Vec Ideal S512x512 .f32)
    (v225 : Vec Ideal S1x1x512x1 .f32) (e : Fin 512) (q k : Mat) (b : Fin 512 → EReal)
    (h0 : ∀ r j, v81 (ix2 r j) = OptHead q k (mat v20) b 0 r j)
    (h1 : ∀ r j, v101 (ix2 r j) = OptHead q k (mat v20) b 1 r j)
    (h2 : ∀ r j, v121 (ix2 r j) = OptHead q k (mat v20) b 2 r j)
    (h3 : ∀ r j, v141 (ix2 r j) = OptHead q k (mat v20) b 3 r j)
    (h4 : ∀ r j, v161 (ix2 r j) = OptHead q k (mat v20) b 4 r j)
    (h5 : ∀ r j, v181 (ix2 r j) = OptHead q k (mat v20) b 5 r j)
    (h6 : ∀ r j, v201 (ix2 r j) = OptHead q k (mat v20) b 6 r j)
    (h7 : ∀ r m, v213 (ix2 r m) = expo (OptScore q k b 7) r m) :
    k1_pay1 v20 v81 v101 v121 v141 v161 v181 v201 v213 v223 v225 (ix4 0 0 r e)
      = (∑ c : Fin 512, OptHead q k (mat v20) b (headOf c) r (inHead c) * v223 (ix2 e c)) * v225 (ix4 0 0 r 0) := by
  pointwise [k1_pay1]
  congr 1
  refine Finset.sum_congr rfl fun x _ => ?_
  congr 1
  simp only [h0, h1, h2, h3, h4, h5, h6, h7]
  exact ladder (fun h j => OptHead q k (mat v20) b h r j) x

/-- The normalised rows. -/
theorem pay2_apply (v0 : Vec Ideal S1x1x512x512 .f32) (d : Fin 512) :
    k1_pay2 (F := Ideal) v0 (ix2 r d) = norm (fun r d => v0 (ix4 0 0 r d)) r d := by
  pointwise [k1_pay2]
  rfl
/-- The query projection. -/
theorem pay3_apply (v0 : Vec Ideal S1x1x512x512 .f32) (v12 : Vec Ideal S512x512 .f32) (c : Fin 512) :
    k1_pay3 (F := Ideal) v0 v12 (ix2 r c) = mulT (norm (fun r d => v0 (ix4 0 0 r d))) (mat v12) r c := by
  unfold k1_pay3
  have h := pay2_apply (v0 := v0)
  generalize k1_pay2 v0 = a at h ⊢
  pointwise []
  simp only [h]; rfl
/-- The key projection. -/
theorem pay4_apply (v0 : Vec Ideal S1x1x512x512 .f32) (v12 : Vec Ideal S512x512 .f32) (c : Fin 512) :
    k1_pay4 (F := Ideal) v0 v12 (ix2 r c) = mulT (norm (fun r d => v0 (ix4 0 0 r d))) (mat v12) r c := pay3_apply r v0 v12 c
/-- The value projection. -/
theorem pay5_apply (v0 : Vec Ideal S1x1x512x512 .f32) (v12 : Vec Ideal S512x512 .f32) (c : Fin 512) :
    k1_pay5 (F := Ideal) v0 v12 (ix2 r c) = mulT (norm (fun r d => v0 (ix4 0 0 r d))) (mat v12) r c := pay3_apply r v0 v12 c
/-- A block with a leading unit axis as a matrix. -/
abbrev mat3 (v : Vec Ideal S1x512x512 .f32) : Mat := fun r c => v (ix3 0 r c)
/-- The left roll's two pieces are one read. -/
theorem rolledL (v : Vec Ideal S512x512 .f32) (c : Fin 512) :
    (if h : c.val < 496 then v (ix2 r ⟨16 + c.val, by omega⟩) else v (ix2 r ⟨c.val - 496, by omega⟩)) = v (ix2 r (right16 c)) := by
  split_ifs <;> exact congrArg (fun l => v (ix2 r l)) (Fin.ext (by simp only [right16]; omega))
/-- The right roll's two pieces are one read. -/
theorem rolledR (v : Vec Ideal S512x512 .f32) (c : Fin 512) :
    (if h : c.val < 16 then v (ix2 r ⟨496 + c.val, by omega⟩) else v (ix2 r ⟨c.val - 16, by omega⟩)) = v (ix2 r (left16 c)) := by
  split_ifs <;> exact congrArg (fun l => v (ix2 r l)) (Fin.ext (by simp only [left16]; omega))
/-- The rotated keys. -/
theorem pay11_apply (v17 : FVec Ideal S512x512 .f32) (v21 v23 v25 v52 : Vec Ideal S1x512x512 .f32) (c : Fin 512) :
    k1_pay11 (F := Ideal) v17 (k1_pay6 v21) (k1_pay7 v23) (k1_pay8 v25) v52 (ix2 r c)
      = OptRot (mat v17) (mat3 v21) (mat3 v23) (mat3 v25) (mat3 v52) r c := by
  pointwise [k1_pay11, k1_pay6, k1_pay7, k1_pay8]
  rw [rolledL, rolledR]; rfl
/-- The rotated queries. -/
theorem pay10_apply (v0 : Vec Ideal S1x1x512x512 .f32) (v12 : Vec Ideal S512x512 .f32) (v21 v23 v25 v38 : Vec Ideal S1x512x512 .f32) (c : Fin 512) :
    k1_pay10 (F := Ideal) (k1_pay3 v0 v12) (k1_pay8 v25) (k1_pay9 v0 v12 v21 v23) v38 (ix2 r c)
      = OptRot (mat (k1_pay3 v0 v12)) (mat3 v21) (mat3 v23) (mat3 v25) (mat3 v38) r c := by
  unfold k1_pay9
  generalize k1_pay3 v0 v12 = a
  pointwise [k1_pay10, k1_pay6, k1_pay7, k1_pay8]
  rw [rolledL, rolledR]; rfl
end Cert.KernelIdeal.Head

end
-- ==== Proof.Plane.lean ====
/- The plane kernel's straight-line pieces, read at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Plane

open Cert.KernelIdeal Cert.KernelIdeal.Gen Cert.Attn Idealize.ShloMosaic Idealize.ShloMosaic.TcCoe

/-- The piece of sixteen lanes that a lane lies in. -/
abbrev pieceOf (c : Fin 512) : Fin 32 := ⟨c.val / 16, by omega⟩

/-- A leading unit axis. -/
theorem cast3 (v : FVec Ideal S512x512 .f32) (r c : Fin 512) :
    shapeCast S1x512x512 v shapeCasts_S512x512_S1x512x512 (ix3 0 r c) = v (ix2 r c) := by
  pointwise []
/-- Thirty-two pieces of sixteen lanes side by side, read at a lane. -/
theorem pieces (p : Fin 32 → FVec Ideal S512x16 .f32) (h) (r c : Fin 512) :
    shapeCast S1x512x512 (concatenate S512x512 1 [⟨S512x16, p 0⟩, ⟨S512x16, p 1⟩, ⟨S512x16, p 2⟩, ⟨S512x16, p 3⟩, ⟨S512x16, p 4⟩, ⟨S512x16, p 5⟩, ⟨S512x16, p 6⟩, ⟨S512x16, p 7⟩, ⟨S512x16, p 8⟩, ⟨S512x16, p 9⟩, ⟨S512x16, p 10⟩, ⟨S512x16, p 11⟩, ⟨S512x16, p 12⟩, ⟨S512x16, p 13⟩, ⟨S512x16, p 14⟩, ⟨S512x16, p 15⟩, ⟨S512x16, p 16⟩, ⟨S512x16, p 17⟩, ⟨S512x16, p 18⟩, ⟨S512x16, p 19⟩, ⟨S512x16, p 20⟩, ⟨S512x16, p 21⟩, ⟨S512x16, p 22⟩, ⟨S512x16, p 23⟩, ⟨S512x16, p 24⟩, ⟨S512x16, p 25⟩, ⟨S512x16, p 26⟩, ⟨S512x16, p 27⟩, ⟨S512x16, p 28⟩, ⟨S512x16, p 29⟩, ⟨S512x16, p 30⟩, ⟨S512x16, p 31⟩] h) shapeCasts_S512x512_S1x512x512 (ix3 0 r c)
      = p (pieceOf c) (ix2 r (sub16 c)) := by
  refine (cast3 _ r c).trans ?_
  exact concatenate_ofFn_apply (t := S512x512) (s₁ := S512x16) 1 p h rfl 16 rfl (ix2 r c) (pieceOf c) rfl (ix2 r (sub16 c)) rfl
    (fun b hb => by match b with | 0 => rfl | 1 => exact absurd rfl hb)

/-- The same where the pieces repeat by four. -/
theorem pieces4 (p : Fin 4 → FVec Ideal S512x16 .f32) (h) (r c : Fin 512) :
    shapeCast S1x512x512 (concatenate S512x512 1 [⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩, ⟨S512x16, p 0⟩, ⟨S512x16, p 1⟩, ⟨S512x16, p 2⟩, ⟨S512x16, p 3⟩] h) shapeCasts_S512x512_S1x512x512 (ix3 0 r c)
      = p (quarter c) (ix2 r (sub16 c)) :=
  pieces (fun q => p ⟨q.val % 4, by omega⟩) h r c

/-! ## The pieces -/

variable (v0 : Vec Ideal S1x512x64 .f32) (r : Fin 512) (l : Fin 16)

/-- The feature block as a matrix. -/
abbrev feat : Fin 512 → Fin 64 → EReal := fun r d => v0 (ix3 0 r d)

/-- The first feature group. -/
theorem pay4_apply : k0_pay4 (F := Ideal) v0 (ix2 r l) = feat v0 r (fcol 0 l) := by
  pointwise [k0_pay3, k0_pay4]
  exact congrArg (fun d => v0 (ix3 0 r d)) (Fin.ext (by simp))
/-- The second feature group. -/
theorem pay5_apply : k0_pay5 (F := Ideal) v0 (ix2 r l) = feat v0 r (fcol 1 l) := by
  pointwise [k0_pay3, k0_pay5]
  rfl
/-- The third feature group. -/
theorem pay6_apply : k0_pay6 (F := Ideal) v0 (ix2 r l) = feat v0 r (fcol 2 l) := by
  pointwise [k0_pay3, k0_pay6]
  rfl
/-- Nothing. -/
theorem pay7_apply : k0_pay7 (F := Ideal) (ix2 r l) = 0 := by
  pointwise [k0_pay7]

/-! ## The planes -/

/-- The plane that multiplies a lane itself. -/
theorem pay8_apply (c : Fin 512) : k0_pay8 (F := Ideal) v0 (ix3 0 r c) = PlaneA (feat v0) r c := by
  refine (pieces4 ![k0_pay4 v0, subf (k0_pay4 v0) (mulf (k0_pay5 v0) (k0_pay5 v0)), broadcast S512x16 (Scalar.ofBits .f32 0x3F800000#32), k0_pay7] _ r c).trans ?_
  have h1 : subf (F := Ideal) (k0_pay4 v0) (mulf (k0_pay5 v0) (k0_pay5 v0)) (ix2 r (sub16 c))
      = feat v0 r (fcol 0 (sub16 c)) - feat v0 r (fcol 1 (sub16 c)) * feat v0 r (fcol 1 (sub16 c)) := by
    rw [← pay4_apply, ← pay5_apply]; rfl
  have h2 : (broadcast S512x16 (Scalar.ofBits .f32 0x3F800000#32) : FVec Ideal S512x16 .f32) (ix2 r (sub16 c)) = 1 := by pointwise []
  unfold PlaneA
  generalize quarter c = u
  fin_cases u
  exacts [pay4_apply v0 r _, h1, h2, pay7_apply r (sub16 c)]
/-- The plane that multiplies the lane sixteen to the right. -/
theorem pay9_apply (c : Fin 512) : k0_pay9 (F := Ideal) v0 (ix3 0 r c) = PlaneL (feat v0) r c := by
  refine (pieces4 ![subf (broadcast S512x16 (Scalar.ofBits .f32 0x00000000#32)) (k0_pay5 v0), k0_pay7, k0_pay7, k0_pay7] _ r c).trans ?_
  have h1 : subf (F := Ideal) (broadcast S512x16 (Scalar.ofBits .f32 0x00000000#32)) (k0_pay5 v0) (ix2 r (sub16 c))
      = 0 - feat v0 r (fcol 1 (sub16 c)) := by
    rw [← pay5_apply]; pointwise []
  unfold PlaneL
  generalize quarter c = u
  fin_cases u
  exacts [h1, pay7_apply r (sub16 c), pay7_apply r (sub16 c), pay7_apply r (sub16 c)]
/-- The plane that multiplies the lane sixteen to the left. -/
theorem pay10_apply (c : Fin 512) : k0_pay10 (F := Ideal) v0 (ix3 0 r c) = PlaneR (feat v0) r c := by
  refine (pieces4 ![k0_pay7, mulf (k0_pay4 v0) (k0_pay5 v0), k0_pay7, k0_pay7] _ r c).trans ?_
  have h1 : mulf (F := Ideal) (k0_pay4 v0) (k0_pay5 v0) (ix2 r (sub16 c))
      = feat v0 r (fcol 0 (sub16 c)) * feat v0 r (fcol 1 (sub16 c)) := by
    rw [← pay4_apply, ← pay5_apply]; rfl
  unfold PlaneR
  generalize quarter c = u
  fin_cases u
  exacts [pay7_apply r (sub16 c), h1, pay7_apply r (sub16 c), pay7_apply r (sub16 c)]
/-- The keys' positional tail. -/
theorem pay2_apply (c : Fin 512) : k0_pay2 (F := Ideal) (k0_pay6 v0) k0_pay7 (ix3 0 r c) = PlaneK (feat v0) r c := by
  refine (pieces4 ![k0_pay7, k0_pay7, k0_pay7, k0_pay6 v0] _ r c).trans ?_
  unfold PlaneK
  generalize quarter c = u
  fin_cases u
  exacts [pay7_apply r (sub16 c), pay7_apply r (sub16 c), pay7_apply r (sub16 c), pay6_apply v0 r _]
/-- One head's scaled tail. -/
abbrev scaled (v4 : FVec Ideal S512x16 .f32) (g : Vec Ideal S1x16 .f32) : FVec Ideal S512x16 .f32 :=
  mulf (broadcastTo S512x16 (shapeCast S1x16 g shapeCasts_S1x16_S1x16) broadcasts_S1x16_S512x16) v4
/-- The queries' positional tail, scaled by each head's gains. -/
theorem pay1_apply (g : Fin 8 → Vec Ideal S1x16 .f32) (c : Fin 512) :
    k0_pay1 (F := Ideal) (k0_pay6 v0) k0_pay7 (k0_pay11 v0 (g 0)) (k0_pay12 v0 (g 1)) (k0_pay13 (g 2)) (g 3) (g 4) (g 5) (g 6) (g 7) (ix3 0 r c)
      = PlaneQ (feat v0) (fun h l => g h (ix2 0 l)) r c := by
  refine (pieces (fun q => if q.val % 4 = 3 then scaled (k0_pay6 v0) (g ⟨q.val / 4, by omega⟩) else k0_pay7) _ r c).trans ?_
  have h1 (h : Fin 8) : scaled (k0_pay6 v0) (g h) (ix2 r (sub16 c)) = g h (ix2 0 (sub16 c)) * feat v0 r (fcol 2 (sub16 c)) := by
    rw [← pay6_apply]
    generalize k0_pay6 (F := Ideal) v0 = a
    pointwise [scaled]
  have hc : (⟨c.val / 16 / 4, by omega⟩ : Fin 8) = headOf c := Fin.ext (by simp; omega)
  unfold PlaneQ
  split_ifs with hq
  · rw [show quarter c = 3 from Fin.ext hq, hc]; exact h1 _
  · have hq' : quarter c ≠ 3 := fun e => hq (congrArg Fin.val e)
    rw [pay7_apply]
    generalize quarter c = u at hq'
    fin_cases u
    exacts [rfl, rfl, rfl, absurd rfl hq']

end Cert.KernelIdeal.Plane

end
-- ==== Proof.Block.lean ====
/- What the two kernels' bodies leave in their output blocks, read at an index. -/
module

public import proofs.«01_k».proof.Proof.Head
public import proofs.«01_k».proof.Proof.Plane
public import proofs.«01_k».proof.Proof.Gen.KernelIdeal.Frame

@[expose] public section

set_option maxRecDepth 16384

noncomputable section

namespace Cert.KernelIdeal.Block

open Cert.KernelIdeal Cert.KernelIdeal.Gen Cert.Attn Idealize.ShloMosaic Idealize.ShloMosaic.TcCoe
open Cert.KernelIdeal.Head Cert.KernelIdeal.Plane

/-- The zero offset of two axes. -/
theorem hz2 : ![0, 0] = fun _ : Fin 2 => 0 := by decide
/-- The zero offset of three axes. -/
theorem hz3 : ![0, 0, 0] = fun _ : Fin 3 => 0 := by decide
/-- The zero offset of four axes. -/
theorem hz4 : ![0, 0, 0, 0] = fun _ : Fin 4 => 0 := by decide

/-- A load of a whole block is the block. -/
theorem ld4 (x : Vec Ideal S1x1x512x512 .f32) : View.ld x r1_0 = x := View.ld_unit_zero hz4 _ _
/-- A load of the whole matrix is the matrix. -/
theorem ld2 (x : Vec Ideal S512x512 .f32) : View.ld x r1_1 = x := View.ld_unit_zero hz2 _ _
/-- A load of the whole plane is the plane. -/
theorem ld3 (x : Vec Ideal S1x512x512 .f32) : View.ld x r1_2 = x := View.ld_unit_zero hz3 _ _
/-- A load of the whole key row is the row. -/
theorem ldk (x : Vec Ideal S1x1x1x512 .f32) : View.ld x r1_3 = x := View.ld_unit_zero hz4 _ _
/-- A load of the whole output mask is the mask. -/
theorem ldr (x : Vec Ideal S1x1x512x1 .f32) : View.ld x r1_4 = x := View.ld_unit_zero hz4 _ _

/-- The attention kernel's output block. -/
theorem out1_apply (x0 : Vec Ideal S1x1x512x512 .f32) (x1 x2 x3 x4 : Vec Ideal S512x512 .f32) (x5 x6 x7 x8 x9 : Vec Ideal S1x512x512 .f32)
    (x10 : Vec Ideal S1x1x1x512 .f32) (x11 : Vec Ideal S1x1x512x1 .f32) (r e : Fin 512) :
    out1_12 x0 x1 x2 x3 x4 x5 x6 x7 x8 x9 x10 x11 (ix4 0 0 r e)
      = OptAttn (fun r d => x0 (ix4 0 0 r d)) (mat x1) (mat x2) (mat x3) (mat x4) (mat3 x5) (mat3 x6) (mat3 x7) (mat3 x8) (mat3 x9)
          (fun m => x10 (ix4 0 0 0 m)) (fun r => x11 (ix4 0 0 r 0)) r e := by
  unfold out1_12 k1_pay25 k1_pay26 k1_pay27 k1_pay28 k1_pay29 k1_pay30 k1_pay31 k1_pay32 k1_pay33 k1_pay34
  rw [View.canon_unit_zero hz4]
  unfold k1_pay25 k1_pay26 k1_pay28 k1_pay29 k1_pay30 k1_pay31
  simp only [ld2, ld3, ld4, ldk, ldr]
  have hq : mat (k1_pay10 (k1_pay3 x0 x1) (k1_pay8 x7) (k1_pay9 x0 x1 x5 x6) x8)
      = OptRot (mulT (norm fun r d => x0 (ix4 0 0 r d)) (mat x1)) (mat3 x5) (mat3 x6) (mat3 x7) (mat3 x8) := by
    funext r c
    rw [mat, Head.pay10_apply]
    congr 1; funext r c; exact pay3_apply r x0 x1 c
  have hk : mat (k1_pay11 (k1_pay4 x0 x2) (k1_pay6 x5) (k1_pay7 x6) (k1_pay8 x7) x9)
      = OptRot (mulT (norm fun r d => x0 (ix4 0 0 r d)) (mat x2)) (mat3 x5) (mat3 x6) (mat3 x7) (mat3 x9) := by
    funext r c
    rw [mat, pay11_apply]
    congr 1; funext r c; exact pay4_apply r x0 x2 c
  have hv : mat (k1_pay5 x0 x3) = mulT (norm fun r d => x0 (ix4 0 0 r d)) (mat x3) := by
    funext r c; exact Head.pay5_apply r x0 x3 c
  have hb : (fun m => k1_pay12 (F := Ideal) x10 (ix2 0 m)) = OptBias (fun m => x10 (ix4 0 0 0 m)) := by
    funext m; exact pay12_apply x10 m
  rw [pay1_apply (h0 := fun r j => pay15_apply ..) (h1 := fun r j => pay16_apply ..) (h2 := fun r j => pay17_apply ..)
    (h3 := fun r j => pay18_apply ..) (h4 := fun r j => pay19_apply ..) (h5 := fun r j => pay22_apply ..)
    (h6 := fun r j => pay23_apply ..) (h7 := fun r j => pay24_apply ..), hq, hk, hv, hb]
  rfl

/-- The plane kernel's output blocks. -/
theorem out0_2_apply (x0 : Vec Ideal S1x512x64 .f32) (x1 : Vec Ideal S8x16 .f32) (r c : Fin 512) :
    out0_2 x0 x1 (ix3 0 r c) = PlaneA (feat x0) r c := by
  unfold out0_2
  rw [View.canon_unit_zero hz3, View.ld_unit_zero hz3]; exact pay8_apply ..
/-- The block of the left rotation's plane. -/
theorem out0_3_apply (x0 : Vec Ideal S1x512x64 .f32) (x1 : Vec Ideal S8x16 .f32) (r c : Fin 512) :
    out0_3 x0 x1 (ix3 0 r c) = PlaneL (feat x0) r c := by
  unfold out0_3
  rw [View.canon_unit_zero hz3, View.ld_unit_zero hz3]; exact pay9_apply ..
/-- The block of the right rotation's plane. -/
theorem out0_4_apply (x0 : Vec Ideal S1x512x64 .f32) (x1 : Vec Ideal S8x16 .f32) (r c : Fin 512) :
    out0_4 x0 x1 (ix3 0 r c) = PlaneR (feat x0) r c := by
  unfold out0_4
  rw [View.canon_unit_zero hz3, View.ld_unit_zero hz3]; exact Plane.pay10_apply ..
/-- The block of the queries' tail. -/
theorem out0_5_apply (x0 : Vec Ideal S1x512x64 .f32) (x1 : Vec Ideal S8x16 .f32) (r c : Fin 512) :
    out0_5 x0 x1 (ix3 0 r c) = PlaneQ (feat x0) (fun h l => x1 (ix2 h l)) r c := by
  unfold out0_5 k0_pay14 k0_pay15
  rw [View.canon_unit_zero hz3, View.ld_unit_zero hz3]
  refine (pay1_apply x0 r ![View.ld x1 r0_2, View.ld x1 r0_3, View.ld x1 r0_4, View.ld x1 r0_5, View.ld x1 r0_6, View.ld x1 r0_7, View.ld x1 r0_8, View.ld x1 r0_9] c).trans ?_
  congr 1
  funext h l
  have e (k : Fin 8) (i : S8x16.Idx) (h0 : i 0 = k) (h1 : i 1 = l) : x1 i = x1 (ix2 k l) :=
    congrArg x1 (funext fun b => by match b with | 0 => exact h0 | 1 => exact h1)
  fin_cases h
  all_goals exact e _ _ (Fin.ext rfl) (Fin.ext (by simp [Rect.unit]))
/-- The block of the keys' tail. -/
theorem out0_6_apply (x0 : Vec Ideal S1x512x64 .f32) (x1 : Vec Ideal S8x16 .f32) (r c : Fin 512) :
    out0_6 x0 x1 (ix3 0 r c) = PlaneK (feat x0) r c := by
  unfold out0_6 k0_pay14 k0_pay15
  rw [View.canon_unit_zero hz3, View.ld_unit_zero hz3]; exact pay2_apply ..

end Cert.KernelIdeal.Block

end
-- ==== Proof.Arrays.lean ====
/- The arrays after the plane kernel and after the attention kernel, as whole-array functions of what they find. -/
module

public import proofs.«01_k».proof.Proof.Block
public import Idealize.ShloMosaic.Lib.Pipeline.ValueKit

@[expose] public section

set_option maxRecDepth 16384

noncomputable section

namespace Cert.KernelIdeal.Arrays

open Cert.KernelIdeal Cert.KernelIdeal.Gen Cert.Attn Idealize.ShloMosaic Idealize.ShloMosaic.TcCoe
open Cert.KernelIdeal.Head Cert.KernelIdeal.Plane Cert.KernelIdeal.Block Idealize.ShloMosaic.Pipeline

variable (V : (c : Dev nD) → (b : Ref sig .tc) → Buf (Elt Ideal) ((c : Thread nD τ).loc b)) (c : Dev nD)

/-- Every window's index map. -/
theorem idx0 : ∀ t : Fin cfg0.N, win0_0.index t = ![t.val, 0, 0] ∧ win0_1.index t = ![0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- An index with a leading unit axis is its other coordinates. -/
theorem unit3 (y : S1x512x512.Idx) : y = ix3 0 (y 1) (y 2) :=
  funext fun b => by match b with | 0 => exact Fin.fin_one_eq_zero _ | 1 => rfl | 2 => rfl

/-- A point's feature block is that batch entry's features. -/
theorem feat_blk (t : Fin cfg0.N) (w : Fin 4) (hw : w.val = t.val) :
    feat (iblk0 V c 0 t) = fun r d => V c main_v13 (ix3 w r d) := by
  funext r d
  blk_ext [iblk0, feat, idx0 t]

/-- The gains are the same at every point. -/
theorem gain_blk (t : Fin cfg0.N) : (fun (h : Fin 8) (l : Fin 16) => iblk0 V c 1 t (ix2 h l)) = fun h l => V c main_v15 (ix2 h l) := by
  funext h l
  blk_ext [iblk0, idx0 t]

/-! ## After the plane kernel -/

/-- The plane that multiplies a lane itself. -/
theorem arr0_2 : (dat0 V c).arrAt 2 cfg0.N = fun i : S4x512x512.Idx => PlaneA (fun r d => V c main_v13 (ix3 (i 0) r d)) (i 1) (i 2) := by
  refine (dat0 V c).arrAt_eq_of_covers 2 _ (by decide +kernel) fun t hf y => ?_
  blk_simp
  rw [after0_2]
  refine (congrArg (out0_2 (iblk0 V c 0 t) (iblk0 V c 1 t)) (unit3 y)).trans ((out0_2_apply _ _ (y 1) (y 2)).trans ?_)
  have h0 : (((win0_2.blk t).view.emb y 0 : Fin 4)).val = t.val := by blk_simp [idx0 t]
  have h1 : ((win0_2.blk t).view.emb y 1 : Fin 512) = y 1 := Fin.ext (by blk_simp [idx0 t])
  have h2 : ((win0_2.blk t).view.emb y 2 : Fin 512) = y 2 := Fin.ext (by blk_simp [idx0 t])
  rw [feat_blk V c t _ h0, h1, h2]
/-- The plane that multiplies the lane sixteen to the right. -/
theorem arr0_3 : (dat0 V c).arrAt 3 cfg0.N = fun i : S4x512x512.Idx => PlaneL (fun r d => V c main_v13 (ix3 (i 0) r d)) (i 1) (i 2) := by
  refine (dat0 V c).arrAt_eq_of_covers 3 _ (by decide +kernel) fun t hf y => ?_
  blk_simp
  rw [after0_3]
  refine (congrArg (out0_3 (iblk0 V c 0 t) (iblk0 V c 1 t)) (unit3 y)).trans ((out0_3_apply _ _ (y 1) (y 2)).trans ?_)
  have h0 : (((win0_3.blk t).view.emb y 0 : Fin 4)).val = t.val := by blk_simp [idx0 t]
  have h1 : ((win0_3.blk t).view.emb y 1 : Fin 512) = y 1 := Fin.ext (by blk_simp [idx0 t])
  have h2 : ((win0_3.blk t).view.emb y 2 : Fin 512) = y 2 := Fin.ext (by blk_simp [idx0 t])
  rw [feat_blk V c t _ h0, h1, h2]
/-- The plane that multiplies the lane sixteen to the left. -/
theorem arr0_4 : (dat0 V c).arrAt 4 cfg0.N = fun i : S4x512x512.Idx => PlaneR (fun r d => V c main_v13 (ix3 (i 0) r d)) (i 1) (i 2) := by
  refine (dat0 V c).arrAt_eq_of_covers 4 _ (by decide +kernel) fun t hf y => ?_
  blk_simp
  rw [after0_4]
  refine (congrArg (out0_4 (iblk0 V c 0 t) (iblk0 V c 1 t)) (unit3 y)).trans ((out0_4_apply _ _ (y 1) (y 2)).trans ?_)
  have h0 : (((win0_4.blk t).view.emb y 0 : Fin 4)).val = t.val := by blk_simp [idx0 t]
  have h1 : ((win0_4.blk t).view.emb y 1 : Fin 512) = y 1 := Fin.ext (by blk_simp [idx0 t])
  have h2 : ((win0_4.blk t).view.emb y 2 : Fin 512) = y 2 := Fin.ext (by blk_simp [idx0 t])
  rw [feat_blk V c t _ h0, h1, h2]
/-- The plane that is added to the queries. -/
theorem arr0_5 : (dat0 V c).arrAt 5 cfg0.N = fun i : S4x512x512.Idx => PlaneQ (fun r d => V c main_v13 (ix3 (i 0) r d)) (fun h l => V c main_v15 (ix2 h l)) (i 1) (i 2) := by
  refine (dat0 V c).arrAt_eq_of_covers 5 _ (by decide +kernel) fun t hf y => ?_
  blk_simp
  rw [after0_5]
  refine (congrArg (out0_5 (iblk0 V c 0 t) (iblk0 V c 1 t)) (unit3 y)).trans ((out0_5_apply _ _ (y 1) (y 2)).trans ?_)
  have h0 : (((win0_5.blk t).view.emb y 0 : Fin 4)).val = t.val := by blk_simp [idx0 t]
  have h1 : ((win0_5.blk t).view.emb y 1 : Fin 512) = y 1 := Fin.ext (by blk_simp [idx0 t])
  have h2 : ((win0_5.blk t).view.emb y 2 : Fin 512) = y 2 := Fin.ext (by blk_simp [idx0 t])
  rw [feat_blk V c t _ h0, h1, h2, gain_blk V c t]
/-- The plane that is added to the keys. -/
theorem arr0_6 : (dat0 V c).arrAt 6 cfg0.N = fun i : S4x512x512.Idx => PlaneK (fun r d => V c main_v13 (ix3 (i 0) r d)) (i 1) (i 2) := by
  refine (dat0 V c).arrAt_eq_of_covers 6 _ (by decide +kernel) fun t hf y => ?_
  blk_simp
  rw [after0_6]
  refine (congrArg (out0_6 (iblk0 V c 0 t) (iblk0 V c 1 t)) (unit3 y)).trans ((out0_6_apply _ _ (y 1) (y 2)).trans ?_)
  have h0 : (((win0_6.blk t).view.emb y 0 : Fin 4)).val = t.val := by blk_simp [idx0 t]
  have h1 : ((win0_6.blk t).view.emb y 1 : Fin 512) = y 1 := Fin.ext (by blk_simp [idx0 t])
  have h2 : ((win0_6.blk t).view.emb y 2 : Fin 512) = y 2 := Fin.ext (by blk_simp [idx0 t])
  rw [feat_blk V c t _ h0, h1, h2]

/-! ## After the attention kernel -/

/-- Every window's index map. -/
theorem idx1 : ∀ t : Fin cfg1.N, win1_0.index t = ![t.val / 4, t.val % 4, 0, 0] ∧ win1_1.index t = ![0, 0] ∧ win1_2.index t = ![0, 0]
    ∧ win1_3.index t = ![0, 0] ∧ win1_4.index t = ![0, 0] ∧ win1_5.index t = ![t.val / 4, 0, 0] ∧ win1_6.index t = ![t.val / 4, 0, 0]
    ∧ win1_7.index t = ![t.val / 4, 0, 0] ∧ win1_8.index t = ![t.val / 4, 0, 0] ∧ win1_9.index t = ![t.val / 4, 0, 0]
    ∧ win1_10.index t = ![t.val / 4, t.val % 4, 0, 0] ∧ win1_11.index t = ![t.val / 4, t.val % 4, 0, 0]
    ∧ win1_12.index t = ![t.val / 4, t.val % 4, 0, 0] :=
  (by decide +kernel : ∀ t : Fin grid1.N, _)

/-- An index with two leading unit axes is its other coordinates. -/
theorem unit4 (y : S1x1x512x512.Idx) : y = ix4 0 0 (y 2) (y 3) :=
  funext fun b => by match b with | 0 => exact Fin.fin_one_eq_zero _ | 1 => exact Fin.fin_one_eq_zero _ | 2 => rfl | 3 => rfl

/-- Window 1 holds the whole of its matrix. -/
theorem blk1_1 (t : Fin cfg1.N) : mat (iblk1 V c 1 t) = fun r d => V c main_v23 (ix2 r d) := by
  funext r d
  blk_ext [iblk1, mat, idx1 t]
/-- Window 2 holds the whole of its matrix. -/
theorem blk1_2 (t : Fin cfg1.N) : mat (iblk1 V c 2 t) = fun r d => V c main_v31 (ix2 r d) := by
  funext r d
  blk_ext [iblk1, mat, idx1 t]
/-- Window 3 holds the whole of its matrix. -/
theorem blk1_3 (t : Fin cfg1.N) : mat (iblk1 V c 3 t) = fun r d => V c main_v34 (ix2 r d) := by
  funext r d
  blk_ext [iblk1, mat, idx1 t]
/-- Window 4 holds the whole of its matrix. -/
theorem blk1_4 (t : Fin cfg1.N) : mat (iblk1 V c 4 t) = fun r d => V c main_arg7 (ix2 r d) := by
  funext r d
  blk_ext [iblk1, mat, idx1 t]
/-- Window 5 holds its batch entry's plane. -/
theorem blk1_5 (t : Fin cfg1.N) (b : Fin 4) (hb : b.val = t.val / 4) : mat3 (iblk1 V c 5 t) = fun r d => V c main_v63_0 (ix3 b r d) := by
  funext r d
  blk_ext [iblk1, mat3, idx1 t]
/-- Window 6 holds its batch entry's plane. -/
theorem blk1_6 (t : Fin cfg1.N) (b : Fin 4) (hb : b.val = t.val / 4) : mat3 (iblk1 V c 6 t) = fun r d => V c main_v63_1 (ix3 b r d) := by
  funext r d
  blk_ext [iblk1, mat3, idx1 t]
/-- Window 7 holds its batch entry's plane. -/
theorem blk1_7 (t : Fin cfg1.N) (b : Fin 4) (hb : b.val = t.val / 4) : mat3 (iblk1 V c 7 t) = fun r d => V c main_v63_2 (ix3 b r d) := by
  funext r d
  blk_ext [iblk1, mat3, idx1 t]
/-- Window 8 holds its batch entry's plane. -/
theorem blk1_8 (t : Fin cfg1.N) (b : Fin 4) (hb : b.val = t.val / 4) : mat3 (iblk1 V c 8 t) = fun r d => V c main_v63_3 (ix3 b r d) := by
  funext r d
  blk_ext [iblk1, mat3, idx1 t]
/-- Window 9 holds its batch entry's plane. -/
theorem blk1_9 (t : Fin cfg1.N) (b : Fin 4) (hb : b.val = t.val / 4) : mat3 (iblk1 V c 9 t) = fun r d => V c main_v63_4 (ix3 b r d) := by
  funext r d
  blk_ext [iblk1, mat3, idx1 t]
/-- Window 0 holds its batch entry's and time's part. -/
theorem blk1_0 (t : Fin cfg1.N) (b u : Fin 4) (hb : b.val = t.val / 4) (hu : u.val = t.val % 4) :
    (fun (r d : Fin 512) => iblk1 V c 0 t (ix4 0 0 r d)) = fun r d => V c main_arg0 (ix4 b u r d) := by
  funext r d
  blk_ext [iblk1, idx1 t]
/-- Window 10 holds its batch entry's and time's part. -/
theorem blk1_10 (t : Fin cfg1.N) (b u : Fin 4) (hb : b.val = t.val / 4) (hu : u.val = t.val % 4) :
    (fun (r : Fin 512) => iblk1 V c 10 t (ix4 0 0 0 r)) = fun r => V c main_v51 (ix4 b u 0 r) := by
  funext r
  blk_ext [iblk1, idx1 t]
/-- Window 11 holds its batch entry's and time's part. -/
theorem blk1_11 (t : Fin cfg1.N) (b u : Fin 4) (hb : b.val = t.val / 4) (hu : u.val = t.val % 4) :
    (fun (r : Fin 512) => iblk1 V c 11 t (ix4 0 0 r 0)) = fun r => V c main_v62 (ix4 b u r 0) := by
  funext r
  blk_ext [iblk1, idx1 t]
/-- Equal operands give equal attention. -/
theorem optAttn_congr {x wq wk wv wo A Bl Br Tq Tk x' wq' wk' wv' wo' A' Bl' Br' Tq' Tk' : Mat} {sp om sp' om' : Fin 512 → EReal}
    {r e r' e' : Fin 512} (h0 : x = x') (h1 : wq = wq') (h2 : wk = wk') (h3 : wv = wv') (h4 : wo = wo') (h5 : A = A') (h6 : Bl = Bl')
    (h7 : Br = Br') (h8 : Tq = Tq') (h9 : Tk = Tk') (h10 : sp = sp') (h11 : om = om') (h12 : r = r') (h13 : e = e') :
    OptAttn x wq wk wv wo A Bl Br Tq Tk sp om r e = OptAttn x' wq' wk' wv' wo' A' Bl' Br' Tq' Tk' sp' om' r' e' := by
  subst h0 h1 h2 h3 h4 h5 h6 h7 h8 h9 h10 h11 h12 h13; rfl

/-- The result array, as the attention of each batch entry and time. -/
theorem arr1_12 : (dat1 V c).arrAt 12 cfg1.N = fun i : S4x4x512x512.Idx =>
    OptAttn (fun r d => V c main_arg0 (ix4 (i 0) (i 1) r d)) (fun r d => V c main_v23 (ix2 r d)) (fun r d => V c main_v31 (ix2 r d))
      (fun r d => V c main_v34 (ix2 r d)) (fun r d => V c main_arg7 (ix2 r d)) (fun r d => V c main_v63_0 (ix3 (i 0) r d))
      (fun r d => V c main_v63_1 (ix3 (i 0) r d)) (fun r d => V c main_v63_2 (ix3 (i 0) r d)) (fun r d => V c main_v63_3 (ix3 (i 0) r d))
      (fun r d => V c main_v63_4 (ix3 (i 0) r d)) (fun r => V c main_v51 (ix4 (i 0) (i 1) 0 r)) (fun r => V c main_v62 (ix4 (i 0) (i 1) r 0))
      (i 2) (i 3) := by
  refine (dat1 V c).arrAt_eq_of_covers 12 _ (by decide +kernel) fun t hf y => ?_
  blk_simp
  rw [after1_12]
  refine (congrArg (out1_12 _ _ _ _ _ _ _ _ _ _ _ _) (unit4 y)).trans ((out1_apply _ _ _ _ _ _ _ _ _ _ _ _ (y 2) (y 3)).trans ?_)
  have h0 : (((win1_12.blk t).view.emb y 0 : Fin 4)).val = t.val / 4 := by blk_simp [idx1 t]
  have h1 : (((win1_12.blk t).view.emb y 1 : Fin 4)).val = t.val % 4 := by blk_simp [idx1 t]
  have h2 : ((win1_12.blk t).view.emb y 2 : Fin 512) = y 2 := Fin.ext (by blk_simp [idx1 t])
  have h3 : ((win1_12.blk t).view.emb y 3 : Fin 512) = y 3 := Fin.ext (by blk_simp [idx1 t])
  exact optAttn_congr (blk1_0 V c t _ _ h0 h1) (blk1_1 V c t) (blk1_2 V c t) (blk1_3 V c t) (blk1_4 V c t) (blk1_5 V c t _ h0)
    (blk1_6 V c t _ h0) (blk1_7 V c t _ h0) (blk1_8 V c t _ h0) (blk1_9 V c t _ h0) (blk1_10 V c t _ _ h0 h1) (blk1_11 V c t _ _ h0 h1)
    h2.symm h3.symm

end Cert.KernelIdeal.Arrays

end
-- ==== Proof.Bits.lean ====
/- Single bits: their tests, their conjunction, their value as numbers. -/
module

public import proofs.«01_k».proof.Proof.Spec
public import Idealize.ShloMosaic.Lib.Routing.OpsOrder

@[expose] public section

noncomputable section

namespace Cert.Attn

open Idealize.ShloMosaic

/-- A bit read as a word, and tested twice for zero, is itself. -/
theorem cmpi_twice : ∀ a : BitVec 1, IntOp.cmpi .ne (IntOp.cmpi .ne (BitVec.setWidth 32 a) 0#32) 0#1 = a := by decide
/-- A bit read as a word and tested for zero is itself. -/
theorem cmpi_once : ∀ a : BitVec 1, IntOp.cmpi .ne (BitVec.setWidth 32 a) 0#32 = a := by decide
/-- A bit tested for zero is itself. -/
theorem cmpi_bit : ∀ a : BitVec 1, IntOp.cmpi .ne a 0#1 = a := by decide
/-- Two bits are both set. -/
theorem andi_one : ∀ a b : BitVec 1, IntOp.andi a b = 1#1 ↔ a = 1#1 ∧ b = 1#1 := by decide
/-- A bit as a number. -/
theorem uitofp_bit (a : BitVec 1) : (FloatOps.uitofp .f32 a : Ideal .f32) = ind (a = 1#1) := by
  obtain rfl | rfl : a = 0#1 ∨ a = 1#1 := by revert a; decide
  · exact (show ((((0#1 : BitVec 1).toNat : ℝ) : EReal)) = _ by simp [ind])
  · exact (show ((((1#1 : BitVec 1).toNat : ℝ) : EReal)) = _ by simp [ind])

end Cert.Attn

end
-- ==== Proof.HostK.lean ====
/- The optimised program's host operations, read at an index. -/
module

public import proofs.«01_k».proof.Proof.Bits
public import proofs.«01_k».proof.Proof.Gen.KernelIdeal.Frame
public import Idealize.ShloMosaic.Lib.Pointwise
public import Idealize.ShloMosaic.Lib.StableHlo.RunRead
public import Idealize.ShloMosaic.Lib.Claim
public import Idealize.ShloMosaic.Lib.Routing.Ops

@[expose] public section

set_option maxRecDepth 16384

noncomputable section

namespace Cert.KernelIdeal.HostK

open Cert.KernelIdeal Cert.KernelIdeal.Gen Cert.Attn Idealize.ShloMosaic Idealize.ShloMosaic.TcCoe
open Idealize.SL.Sem

variable (m : (i : Loc nD τ sig) → Buf (Elt Ideal) i) (ρ : Dev nD → PrngReg) (c : Dev nD)

/-- An argument's contents at launch. -/
abbrev arg (b : Ref sig .tc) : Buf (Elt Ideal) ((c : Thread nD τ).loc b) := m ((c : Thread nD τ).loc b)

/-- The operands of batch entry `b` at time `t`. -/
def ops (b t : Fin 4) : Ops where
  x := fun r d => (arg m c main_arg0 : Vec Ideal S4x4x512x512 .f32) (ix4 b t r d)
  pp := fun r k => (arg m c main_arg1 : Vec Ideal S4x512x3 .f32) (ix3 b r k)
  pad := fun r => (arg m c main_arg2 : IVec S4x512 1) (ix2 b r)
  spike := fun r => (arg m c main_arg3 : IVec S4x4x512 1) (ix3 b t r)
  wq := fun r d => (arg m c main_arg4 : Vec Ideal S512x512 .f32) (ix2 r d)
  wk := fun r d => (arg m c main_arg5 : Vec Ideal S512x512 .f32) (ix2 r d)
  wv := fun r d => (arg m c main_arg6 : Vec Ideal S512x512 .f32) (ix2 r d)
  wo := fun r d => (arg m c main_arg7 : Vec Ideal S512x512 .f32) (ix2 r d)
  w := fun d => (arg m c main_arg8 : Vec Ideal S512 .f32) (ix1 d)
  dirs := fun f k => (arg m c main_arg9 : Vec Ideal S32x3 .f32) (ix2 f k)
  freqs := fun f => (arg m c main_arg10 : Vec Ideal S32 .f32) (ix1 f)
  omega := fun f k => (arg m c main_arg11 : Vec Ideal S32x3 .f32) (ix2 f k)
  mix := fun p d => (arg m c main_arg12 : Vec Ideal S16x64 .f32) (ix2 p d)
  gain := fun h l => (arg m c main_arg13 : Vec Ideal S8x16 .f32) (ix2 h l)

/-- The value matrix takes the weights. -/
theorem v34_apply (b t : Fin 4) (r d : Fin 512) :
    (W1 m ρ c (Proc.devRef .tc main_v34) : Vec Ideal S512x512 .f32) (ix2 r d) = (ops m c b t).wv r d * (ops m c b t).w d := by
  unfold_abbrev_sides
  after_reads_simp
  pointwise []
  rfl

/-- The index table is the lanes' permutation. -/
theorem lit0_perm : ∀ i : Fin 512, lit0 i = BitVec.ofNat 32 (perm i).val := by
  decide +kernel

/-- The column of row numbers that the permutation's gather reads. -/
theorem table (j : Fin 512) : (broadcastInDim S512x1 ![0] bcast_S512_S512x1_0
        (select (constantI S512 1 0#1)
          (addi (fun i => lit0 (S512.rowMajor i)) (broadcastInDim S512 ![] bcast_S_S512 (constantI S_ 32 512#32)))
          fun i => lit0 (S512.rowMajor i)) : IVec S512x1 32) (ix2 j 0) = BitVec.ofNat 32 (perm j).val := by
  pointwise []
  refine Eq.trans ?_ (lit0_perm j)
  congr 1
  refine Fin.ext ?_
  show (Shape.rowMajorPi S512.size (ix1 j)).val = j.val
  rw [Shape.rowMajorPi_succ_val]
  simp [Shape.rowMajorPi_zero, ix1]

/-- The query matrix takes the weights and the permutation. -/
theorem v23_apply (b t : Fin 4) (r d : Fin 512) :
    (W1 m ρ c (Proc.devRef .tc main_v23) : Vec Ideal S512x512 .f32) (ix2 r d) = (ops m c b t).wq (perm r) d * (ops m c b t).w d := by
  unfold_abbrev_sides
  after_reads_simp
  refine (Routing.gather_row _ rfl rfl rfl rfl rfl _ _ r d (perm r) (table r) (by decide)).trans ?_
  pointwise []
  rfl
/-- The key matrix takes the weights and the permutation. -/
theorem v31_apply (b t : Fin 4) (r d : Fin 512) :
    (W1 m ρ c (Proc.devRef .tc main_v31) : Vec Ideal S512x512 .f32) (ix2 r d) = (ops m c b t).wk (perm r) d * (ops m c b t).w d := by
  unfold_abbrev_sides
  after_reads_simp
  refine (Routing.gather_row _ rfl rfl rfl rfl rfl _ _ r d (perm r) (table r) (by decide)).trans ?_
  pointwise []
  rfl
/-- The gains are scaled. -/
theorem v15_apply (b t : Fin 4) (h : Fin 8) (l : Fin 16) :
    (W1 m ρ c (Proc.devRef .tc main_v15) : Vec Ideal S8x16 .f32) (ix2 h l) = cPos * (ops m c b t).gain h l := by
  unfold_abbrev_sides
  after_reads_simp
  pointwise []
  rfl

/-- The indicator of the keys. -/
theorem v51_apply (b t : Fin 4) (r : Fin 512) :
    (W1 m ρ c (Proc.devRef .tc main_v51) : Vec Ideal S4x4x1x512 .f32) (ix4 b t 0 r) = ind (isKey (ops m c b t) r) := by
  unfold_abbrev_sides
  after_reads_simp
  pointwise []
  unfold id cmpi
  pointwise []
  simp only [cmpi_twice, uitofp_bit, andi_one]
  rfl
/-- The indicator of the rows that are answered. -/
theorem v62_apply (b t : Fin 4) (r : Fin 512) : (W1 m ρ c (Proc.devRef .tc main_v62) : Vec Ideal S4x4x512x1 .f32) (ix4 b t r 0)
    = ind ((ops m c b t).pad r = 1#1 ∧ hasKey (ops m c b t)) := by
  unfold_abbrev_sides
  after_reads_simp
  pointwise []
  unfold id cmpi
  pointwise []
  simp only [cmpi_twice, uitofp_bit, andi_one, Routing.fold_ori, Finset.mem_univ, true_and]
  rfl
/-- The features. -/
theorem v13_apply (b t : Fin 4) (r : Fin 512) (d : Fin 64) :
    (W1 m ρ c (Proc.devRef .tc main_v13) : Vec Ideal S4x512x64 .f32) (ix3 b r d) = feature (ops m c b t) r d := by
  unfold_abbrev_sides
  after_reads_simp
  pointwise []
  after_reads_simp
  pointwise []
  after_reads_simp
  pointwise []
  unfold feature
  by_cases h₁ : d.val < 16
  · rw [dif_pos h₁, dif_pos h₁]; rfl
  rw [dif_neg h₁, dif_neg h₁]
  by_cases h₂ : d.val - 16 < 16
  · rw [dif_pos h₂, dif_pos h₂]; rfl
  rw [dif_neg h₂, dif_neg h₂]
  by_cases h₃ : d.val - 16 - 16 < 16
  · rw [dif_pos h₃, dif_pos h₃, posFeat_split]; rfl
  rw [dif_neg h₃, dif_neg h₃]

end Cert.KernelIdeal.HostK

end
-- ==== Proof.KValue.lean ====
/- The optimised program's result, from the operands. -/
module

public import proofs.«01_k».proof.Proof.Arrays
public import proofs.«01_k».proof.Proof.HostK
public import proofs.«01_k».proof.Proof.KRun

@[expose] public section

set_option maxRecDepth 16384

noncomputable section

namespace Cert.KernelIdeal.KValue

open Cert.KernelIdeal Cert.KernelIdeal.Gen Cert.Attn Idealize.ShloMosaic Idealize.ShloMosaic.TcCoe
open Idealize.SL.Sem

variable (m : (i : Loc nD τ sig) → Buf (Elt Ideal) i) (ρ : Dev nD → PrngReg) (c : Dev nD)

/-- The features as the first region finds them. -/
theorem feat_eq (b t : Fin 4) :
    (fun r d => (V1 m ρ c main_v13 : Vec Ideal S4x512x64 .f32) (ix3 b r d)) = feature (HostK.ops m c b t) :=
  funext fun r => funext fun d => HostK.v13_apply m ρ c b t r d
/-- The gains as the first region finds them. -/
theorem gain_eq (b t : Fin 4) :
    (fun h l => (V1 m ρ c main_v15 : Vec Ideal S8x16 .f32) (ix2 h l)) = fun h l => cPos * (HostK.ops m c b t).gain h l :=
  funext fun h => funext fun l => HostK.v15_apply m ρ c b t h l
/-- The plane that multiplies a lane itself, as the second region finds it. -/
theorem planeA_eq (b t : Fin 4) :
    (fun r d => (V2 m ρ c main_v63_0 : Vec Ideal S4x512x512 .f32) (ix3 b r d)) = PlaneA (feature (HostK.ops m c b t)) := by
  rw [← feat_eq m ρ c b t]
  exact funext fun r => funext fun d => congrFun ((W2_arr m ρ c 2).trans (Arrays.arr0_2 (V1 m ρ) c)) (ix3 b r d)
/-- The plane that multiplies the lane to the right, as the second region finds it. -/
theorem planeL_eq (b t : Fin 4) :
    (fun r d => (V2 m ρ c main_v63_1 : Vec Ideal S4x512x512 .f32) (ix3 b r d)) = PlaneL (feature (HostK.ops m c b t)) := by
  rw [← feat_eq m ρ c b t]
  exact funext fun r => funext fun d => congrFun ((W2_arr m ρ c 3).trans (Arrays.arr0_3 (V1 m ρ) c)) (ix3 b r d)
/-- The plane that multiplies the lane to the left, as the second region finds it. -/
theorem planeR_eq (b t : Fin 4) :
    (fun r d => (V2 m ρ c main_v63_2 : Vec Ideal S4x512x512 .f32) (ix3 b r d)) = PlaneR (feature (HostK.ops m c b t)) := by
  rw [← feat_eq m ρ c b t]
  exact funext fun r => funext fun d => congrFun ((W2_arr m ρ c 4).trans (Arrays.arr0_4 (V1 m ρ) c)) (ix3 b r d)
/-- The plane that holds the queries' tail, as the second region finds it. -/
theorem planeQ_eq (b t : Fin 4) :
    (fun r d => (V2 m ρ c main_v63_3 : Vec Ideal S4x512x512 .f32) (ix3 b r d)) = PlaneQ (feature (HostK.ops m c b t)) (fun h l => cPos * (HostK.ops m c b t).gain h l) := by
  rw [← feat_eq m ρ c b t, ← gain_eq m ρ c b t]
  exact funext fun r => funext fun d => congrFun ((W2_arr m ρ c 5).trans (Arrays.arr0_5 (V1 m ρ) c)) (ix3 b r d)
/-- The plane that holds the keys' tail, as the second region finds it. -/
theorem planeK_eq (b t : Fin 4) :
    (fun r d => (V2 m ρ c main_v63_4 : Vec Ideal S4x512x512 .f32) (ix3 b r d)) = PlaneK (feature (HostK.ops m c b t)) := by
  rw [← feat_eq m ρ c b t]
  exact funext fun r => funext fun d => congrFun ((W2_arr m ρ c 6).trans (Arrays.arr0_6 (V1 m ρ) c)) (ix3 b r d)

/-- The result at batch entry `b`, time `t`. -/
theorem v64_apply (b t : Fin 4) (r e : Fin 512) :
    (W3 m ρ c (Proc.devRef .tc main_v64) : Vec Ideal S4x4x512x512 .f32) (ix4 b t r e) = Opt (HostK.ops m c b t) r e := by
  refine (congrFun ((W3_arr m ρ c 12).trans (Arrays.arr1_12 (V2 m ρ) c)) (ix4 b t r e)).trans ?_
  exact Arrays.optAttn_congr
    (funext fun r => funext fun d => congrFun (W2_args m ρ c main_arg0 (by decide)) (ix4 b t r d))
    (funext fun r => funext fun d => (congrFun (W2_of m ρ c main_v23 (by decide)) (ix2 r d)).trans (HostK.v23_apply m ρ c b t r d))
    (funext fun r => funext fun d => (congrFun (W2_of m ρ c main_v31 (by decide)) (ix2 r d)).trans (HostK.v31_apply m ρ c b t r d))
    (funext fun r => funext fun d => (congrFun (W2_of m ρ c main_v34 (by decide)) (ix2 r d)).trans (HostK.v34_apply m ρ c b t r d))
    (funext fun r => funext fun d => congrFun (W2_args m ρ c main_arg7 (by decide)) (ix2 r d))
    (planeA_eq m ρ c b t) (planeL_eq m ρ c b t) (planeR_eq m ρ c b t) (planeQ_eq m ρ c b t) (planeK_eq m ρ c b t)
    (funext fun r => (congrFun (W2_of m ρ c main_v51 (by decide)) (ix4 b t 0 r)).trans (HostK.v51_apply m ρ c b t r))
    (funext fun r => (congrFun (W2_of m ρ c main_v62 (by decide)) (ix4 b t r 0)).trans (HostK.v62_apply m ρ c b t r))
    rfl rfl

end Cert.KernelIdeal.KValue

end
-- ==== Proof.Tail.lean ====
/- A write of sixteen lanes behind forty-eight, read at an index. -/
module

public import proofs.«01_k».proof.Proof.Gen.ReferenceIdeal
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Tail

open Cert.ReferenceIdeal Cert.ReferenceIdeal.Gen Idealize.ShloMosaic Idealize.ShloMosaic.Routing

/-- The write's dimensions: the window is a whole update, and its start is a lane. -/
abbrev dims := scatter_S4x4x512x8x64_S1_S4x4x512x8x16_01234_n_4_0

/-- The lane that the write starts at. -/
abbrev first : IVec S1 32 := broadcastInDim S1 ![] bcast_S_S1 (constantI S_ 32 48#32)

/-- Update `k` lands at `ι` if it has its coordinates, the lane forty-eight further. -/
theorem lands (k : S4x4x512x8x16.Idx) (ι : S4x4x512x8x64.Idx) :
    dims.resultIdx? k first = some ι ↔
      (k 0).val = (ι 0).val ∧ (k 1).val = (ι 1).val ∧ (k 2).val = (ι 2).val ∧ (k 3).val = (ι 3).val ∧ 48 + (k 4).val = (ι 4).val := by
  rw [resultIdx?_eq_some]
  have h0 : dims.start k first 0 + (dims.window k 0 : Int) = (k 0).val := zero_add _
  have h1 : dims.start k first 1 + (dims.window k 1 : Int) = (k 1).val := zero_add _
  have h2 : dims.start k first 2 + (dims.window k 2 : Int) = (k 2).val := zero_add _
  have h3 : dims.start k first 3 + (dims.window k 3 : Int) = (k 3).val := zero_add _
  have h4 : dims.start k first 4 + (dims.window k 4 : Int) = 48 + (k 4).val := rfl
  constructor
  · intro h
    have e0 := h 0; have e1 := h 1; have e2 := h 2; have e3 := h 3; have e4 := h 4
    rw [h0] at e0; rw [h1] at e1; rw [h2] at e2; rw [h3] at e3; rw [h4] at e4
    exact ⟨by exact_mod_cast e0, by exact_mod_cast e1, by exact_mod_cast e2, by exact_mod_cast e3, by exact_mod_cast e4⟩
  · rintro ⟨e0, e1, e2, e3, e4⟩ a
    match a with
    | ⟨0, _⟩ => exact h0.trans (by exact_mod_cast e0)
    | ⟨1, _⟩ => exact h1.trans (by exact_mod_cast e1)
    | ⟨2, _⟩ => exact h2.trans (by exact_mod_cast e2)
    | ⟨3, _⟩ => exact h3.trans (by exact_mod_cast e3)
    | ⟨4, _⟩ => exact h4.trans (by exact_mod_cast e4)

/-- The written array: the operand's lanes before the forty-eighth, then the update's. -/
theorem write_apply (y : FVec Ideal S4x4x512x8x64 .f32) (u : FVec Ideal S4x4x512x8x16 .f32) (b t : Fin 4) (r : Fin 512) (h : Fin 8) (i : Fin 64) :
    Host.scatter dims (fun _ b => b) y first u (ix5 b t r h i)
      = if hi : i.val < 48 then y (ix5 b t r h i) else u (ix5 b t r h ⟨i.val - 48, by omega⟩) := by
  by_cases hi : i.val < 48
  · rw [dif_pos hi]
    refine scatter_set_miss _ _ _ _ _ fun k hk => ?_
    have h4 : 48 + (k 4).val = i.val := ((lands k _).1 hk).2.2.2.2
    omega
  · rw [dif_neg hi]
    refine scatter_set_hit _ _ _ _ _ _ (fun k hk => congrArg u ?_) (ix5 b t r h ⟨i.val - 48, by omega⟩)
      ((lands _ _).2 ⟨rfl, rfl, rfl, rfl, (by show 48 + (i.val - 48) = i.val; omega)⟩)
    obtain ⟨e0, e1, e2, e3, e4⟩ := (lands k _).1 hk
    have e4' : 48 + (k 4).val = i.val := e4
    funext a
    match a with
    | ⟨0, _⟩ => exact Fin.ext e0
    | ⟨1, _⟩ => exact Fin.ext e1
    | ⟨2, _⟩ => exact Fin.ext e2
    | ⟨3, _⟩ => exact Fin.ext e3
    | ⟨4, _⟩ => exact Fin.ext (show (k 4).val = i.val - 48 by omega)

end Cert.ReferenceIdeal.Tail

end
-- ==== Proof.RefRead.lean ====
/- The reference program's operations, read at an index. -/
module

public import proofs.«01_k».proof.Proof.Bits
public import proofs.«01_k».proof.Proof.Tail
public import proofs.«01_k».proof.Proof.Gen.ReferenceIdeal.Read
public import Idealize.ShloMosaic.Lib.Pointwise

@[expose] public section

set_option maxRecDepth 16384

noncomputable section

namespace Cert.ReferenceIdeal.RefRead

open Cert.ReferenceIdeal Cert.ReferenceIdeal.Gen Cert.ReferenceIdeal.Read Cert.Attn Idealize.ShloMosaic

variable (x0 : (⟨S4x4x512x512, .f32⟩ : BufTy).Contents (Elt Ideal))
  (x1 : (⟨S4x512x3, .f32⟩ : BufTy).Contents (Elt Ideal))
  (x2 : (⟨S4x512, .i1⟩ : BufTy).Contents (Elt Ideal))
  (x3 : (⟨S4x4x512, .i1⟩ : BufTy).Contents (Elt Ideal))
  (x4 : (⟨S512x512, .f32⟩ : BufTy).Contents (Elt Ideal))
  (x5 : (⟨S512x512, .f32⟩ : BufTy).Contents (Elt Ideal))
  (x6 : (⟨S512x512, .f32⟩ : BufTy).Contents (Elt Ideal))
  (x7 : (⟨S512x512, .f32⟩ : BufTy).Contents (Elt Ideal))
  (x8 : (⟨S512, .f32⟩ : BufTy).Contents (Elt Ideal))
  (x9 : (⟨S32x3, .f32⟩ : BufTy).Contents (Elt Ideal))
  (x10 : (⟨S32, .f32⟩ : BufTy).Contents (Elt Ideal))
  (x11 : (⟨S32x3, .f32⟩ : BufTy).Contents (Elt Ideal))
  (x12 : (⟨S16x64, .f32⟩ : BufTy).Contents (Elt Ideal))
  (x13 : (⟨S8x16, .f32⟩ : BufTy).Contents (Elt Ideal))

/-- The operands of batch entry `b` at time `t`. -/
def ops (b t : Fin 4) : Ops where
  x := fun r d => x0 (ix4 b t r d)
  pp := fun r k => x1 (ix3 b r k)
  pad := fun r => x2 (ix2 b r)
  spike := fun r => x3 (ix3 b t r)
  wq := fun r d => x4 (ix2 r d)
  wk := fun r d => x5 (ix2 r d)
  wv := fun r d => x6 (ix2 r d)
  wo := fun r d => x7 (ix2 r d)
  w := fun d => x8 (ix1 d)
  dirs := fun f k => x9 (ix2 f k)
  freqs := fun f => x10 (ix1 f)
  omega := fun f k => x11 (ix2 f k)
  mix := fun p d => x12 (ix2 p d)
  gain := fun h l => x13 (ix2 h l)

/-- A lane counted from its head. -/
theorem lane_eq (h : Fin 8) (i : Fin 64) (p : h.val * 64 + i.val < 512) : (⟨h.val * 64 + i.val, p⟩ : Fin 512) = lane h i :=
  Fin.ext (congrArg (· + i.val) (Nat.mul_comm _ _))

/-- The normalised rows with their weights. -/
theorem v12_apply (b t : Fin 4) (r d : Fin 512) :
    val_main_v12 (F := Ideal) x0 x8 (ix4 b t r d) = normW (ops x0 x1 x2 x3 x4 x5 x6 x7 x8 x9 x10 x11 x12 x13 b t) r d := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The projected rows, head by head. -/
theorem v22_apply (b t : Fin 4) (r : Fin 512) (h : Fin 8) (i : Fin 64) :
    val_main_v22 (F := Ideal) x0 x4 x8 (ix5 b t r h i) = mulT (normW (ops x0 x1 x2 x3 x4 x5 x6 x7 x8 x9 x10 x11 x12 x13 b t)) (ops x0 x1 x2 x3 x4 x5 x6 x7 x8 x9 x10 x11 x12 x13 b t).wq r (lane h i) := by
  pointwise [val_main_v21, val_main_v22]
  simp only [v12_apply x0 x1 x2 x3 x4 x5 x6 x7 x8 x9 x10 x11 x12 x13, lane_eq]
  rfl

/-- The projected rows, head by head. -/
theorem v24_apply (b t : Fin 4) (r : Fin 512) (h : Fin 8) (i : Fin 64) :
    val_main_v24 (F := Ideal) x0 x5 x8 (ix5 b t r h i) = mulT (normW (ops x0 x1 x2 x3 x4 x5 x6 x7 x8 x9 x10 x11 x12 x13 b t)) (ops x0 x1 x2 x3 x4 x5 x6 x7 x8 x9 x10 x11 x12 x13 b t).wk r (lane h i) := by
  pointwise [val_main_v23, val_main_v24]
  simp only [v12_apply x0 x1 x2 x3 x4 x5 x6 x7 x8 x9 x10 x11 x12 x13, lane_eq]
  rfl

/-- The projected rows, head by head. -/
theorem v26_apply (b t : Fin 4) (r : Fin 512) (h : Fin 8) (i : Fin 64) :
    val_main_v26 (F := Ideal) x0 x6 x8 (ix5 b t r h i) = mulT (normW (ops x0 x1 x2 x3 x4 x5 x6 x7 x8 x9 x10 x11 x12 x13 b t)) (ops x0 x1 x2 x3 x4 x5 x6 x7 x8 x9 x10 x11 x12 x13 b t).wv r (lane h i) := by
  pointwise [val_main_v25, val_main_v26]
  simp only [v12_apply x0 x1 x2 x3 x4 x5 x6 x7 x8 x9 x10 x11 x12 x13, lane_eq]
  rfl

/-- The rotation's angle. -/
theorem v16_apply (b t : Fin 4) (r : Fin 512) (f : Fin 32) :
    val_main_v16 (F := Ideal) x1 x9 x10 (ix3 b r f) = angle (ops x0 x1 x2 x3 x4 x5 x6 x7 x8 x9 x10 x11 x12 x13 b t) r f := by
  pointwise [val_main_v13, val_main_v14, val_main_v15, val_main_v16]
  rfl

/-- The angle's sine. -/
theorem v30_apply (b t : Fin 4) (r : Fin 512) (j : Fin 16) :
    val_main_v30 (F := Ideal) x1 x9 x10 (ix5 b 0 r 0 j) = Ideal.sin (angle (ops x0 x1 x2 x3 x4 x5 x6 x7 x8 x9 x10 x11 x12 x13 b t) r (low j)) := by
  pointwise [val_main_v27, val_main_v28, val_main_v29, val_main_v30]
  simp only [v16_apply x0 x1 x2 x3 x4 x5 x6 x7 x8 x9 x10 x11 x12 x13 b t]
  try rfl

/-- The angle's cosine. -/
theorem v32_apply (b t : Fin 4) (r : Fin 512) (j : Fin 16) :
    val_main_v32 (F := Ideal) x1 x9 x10 (ix5 b 0 r 0 j) = Ideal.cos (angle (ops x0 x1 x2 x3 x4 x5 x6 x7 x8 x9 x10 x11 x12 x13 b t) r (low j)) := by
  pointwise [val_main_v27, val_main_v28, val_main_v31, val_main_v32]
  simp only [v16_apply x0 x1 x2 x3 x4 x5 x6 x7 x8 x9 x10 x11 x12 x13 b t]
  try rfl

/-- The positional features. -/
theorem v69_apply (b t : Fin 4) (r : Fin 512) (l : Fin 16) :
    val_main_v69 (F := Ideal) x1 x11 x12 (ix3 b r l) = posFeat (ops x0 x1 x2 x3 x4 x5 x6 x7 x8 x9 x10 x11 x12 x13 b t) r l := by
  pointwise [val_main_v17, val_main_v18, val_main_v19, val_main_v20, val_main_v69]
  rw [posFeat_split]
  rfl

/-- The rotated even lanes. -/
theorem v39_apply (b t : Fin 4) (r : Fin 512) (h : Fin 8) (j : Fin 16) :
    val_main_v39 (F := Ideal) x0 x1 x4 x8 x9 x10 (ix5 b t r h j) = RefEven (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wq) r h j := by
  pointwise [val_main_v33, val_main_v34, val_main_v35, val_main_v36, val_main_v37, val_main_v38, val_main_v39]
  simp only [v22_apply x0 x1 x2 x3 x4 x5 x6 x7 x8 x9 x10 x11 x12 x13 b t, v30_apply x0 x1 x2 x3 x4 x5 x6 x7 x8 x9 x10 x11 x12 x13 b t, v32_apply x0 x1 x2 x3 x4 x5 x6 x7 x8 x9 x10 x11 x12 x13 b t]
  try rfl

/-- The rotated odd lanes. -/
theorem v44_apply (b t : Fin 4) (r : Fin 512) (h : Fin 8) (j : Fin 16) :
    val_main_v44 (F := Ideal) x0 x1 x4 x8 x9 x10 (ix5 b t r h j) = RefOdd (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wq) r h j := by
  pointwise [val_main_v34, val_main_v40, val_main_v41, val_main_v42, val_main_v43, val_main_v44]
  simp only [v39_apply x0 x1 x2 x3 x4 x5 x6 x7 x8 x9 x10 x11 x12 x13 b t, v22_apply x0 x1 x2 x3 x4 x5 x6 x7 x8 x9 x10 x11 x12 x13 b t, v30_apply x0 x1 x2 x3 x4 x5 x6 x7 x8 x9 x10 x11 x12 x13 b t, v32_apply x0 x1 x2 x3 x4 x5 x6 x7 x8 x9 x10 x11 x12 x13 b t]
  try rfl

/-- The rotated lanes. -/
theorem v50_apply (b t : Fin 4) (r : Fin 512) (h : Fin 8) (i : Fin 64) :
    val_main_v50 (F := Ideal) x0 x1 x4 x8 x9 x10 (ix5 b t r h i) = RefRot (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wq) r h i := by
  pointwise [val_main_v45, val_main_v46, val_main_v47, val_main_v48, val_main_v49, val_main_v50]
  unfold RefRot
  by_cases h₁ : i.val < 32
  · rw [dif_pos h₁, dif_pos h₁]
    by_cases h₂ : i.val % 2 < 1
    · rw [dif_pos h₂, if_pos h₂]; exact v39_apply x0 x1 x2 x3 x4 x5 x6 x7 x8 x9 x10 x11 x12 x13 b t r h _
    · rw [dif_neg h₂, if_neg h₂]; exact v44_apply x0 x1 x2 x3 x4 x5 x6 x7 x8 x9 x10 x11 x12 x13 b t r h _
  · rw [dif_neg h₁, dif_neg h₁, v22_apply x0 x1 x2 x3 x4 x5 x6 x7 x8 x9 x10 x11 x12 x13 b t]
    have h₂ : (⟨32 + (i.val - 32), by omega⟩ : Fin 64) = i := Fin.ext (by simp; omega)
    rw [h₂]

/-- The rotated even lanes. -/
theorem v57_apply (b t : Fin 4) (r : Fin 512) (h : Fin 8) (j : Fin 16) :
    val_main_v57 (F := Ideal) x0 x1 x5 x8 x9 x10 (ix5 b t r h j) = RefEven (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wk) r h j := by
  pointwise [val_main_v51, val_main_v52, val_main_v53, val_main_v54, val_main_v55, val_main_v56, val_main_v57]
  simp only [v24_apply x0 x1 x2 x3 x4 x5 x6 x7 x8 x9 x10 x11 x12 x13 b t, v30_apply x0 x1 x2 x3 x4 x5 x6 x7 x8 x9 x10 x11 x12 x13 b t, v32_apply x0 x1 x2 x3 x4 x5 x6 x7 x8 x9 x10 x11 x12 x13 b t]
  try rfl

/-- The rotated odd lanes. -/
theorem v62_apply (b t : Fin 4) (r : Fin 512) (h : Fin 8) (j : Fin 16) :
    val_main_v62 (F := Ideal) x0 x1 x5 x8 x9 x10 (ix5 b t r h j) = RefOdd (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wk) r h j := by
  pointwise [val_main_v52, val_main_v58, val_main_v59, val_main_v60, val_main_v61, val_main_v62]
  simp only [v57_apply x0 x1 x2 x3 x4 x5 x6 x7 x8 x9 x10 x11 x12 x13 b t, v24_apply x0 x1 x2 x3 x4 x5 x6 x7 x8 x9 x10 x11 x12 x13 b t, v30_apply x0 x1 x2 x3 x4 x5 x6 x7 x8 x9 x10 x11 x12 x13 b t, v32_apply x0 x1 x2 x3 x4 x5 x6 x7 x8 x9 x10 x11 x12 x13 b t]
  try rfl

/-- The rotated lanes. -/
theorem v68_apply (b t : Fin 4) (r : Fin 512) (h : Fin 8) (i : Fin 64) :
    val_main_v68 (F := Ideal) x0 x1 x5 x8 x9 x10 (ix5 b t r h i) = RefRot (ops x0 x1 x2 x3 x4 x5 x6 x7 x8 x9 x10 x11 x12 x13 b t) (mulT (normW (ops x0 x1 x2 x3 x4 x5 x6 x7 x8 x9 x10 x11 x12 x13 b t)) (ops x0 x1 x2 x3 x4 x5 x6 x7 x8 x9 x10 x11 x12 x13 b t).wk) r h i := by
  pointwise [val_main_v63, val_main_v64, val_main_v65, val_main_v66, val_main_v67, val_main_v68]
  unfold RefRot
  by_cases h₁ : i.val < 32
  · rw [dif_pos h₁, dif_pos h₁]
    by_cases h₂ : i.val % 2 < 1
    · rw [dif_pos h₂, if_pos h₂]; exact v57_apply x0 x1 x2 x3 x4 x5 x6 x7 x8 x9 x10 x11 x12 x13 b t r h _
    · rw [dif_neg h₂, if_neg h₂]; exact v62_apply x0 x1 x2 x3 x4 x5 x6 x7 x8 x9 x10 x11 x12 x13 b t r h _
  · rw [dif_neg h₁, dif_neg h₁, v24_apply x0 x1 x2 x3 x4 x5 x6 x7 x8 x9 x10 x11 x12 x13 b t]
    have h₂ : (⟨32 + (i.val - 32), by omega⟩ : Fin 64) = i := Fin.ext (by simp; omega)
    rw [h₂]

/-- The queries' positional lanes. -/
theorem v78_apply (b t : Fin 4) (r : Fin 512) (h : Fin 8) (l : Fin 16) :
    val_main_v78 (F := Ideal) x1 x11 x12 x13 (ix5 b t r h l) = cPos * (ops x0 x1 x2 x3 x4 x5 x6 x7 x8 x9 x10 x11 x12 x13 b t).gain h l * posFeat (ops x0 x1 x2 x3 x4 x5 x6 x7 x8 x9 x10 x11 x12 x13 b t) r l := by
  pointwise [val_main_v70, val_main_v71, val_main_v72, val_main_v73, val_main_v74, val_main_v75, val_main_v76, val_main_v77, val_main_v78, val_main_cst_2]
  simp only [v69_apply x0 x1 x2 x3 x4 x5 x6 x7 x8 x9 x10 x11 x12 x13 b t]
  rfl

/-- The keys' positional lanes. -/
theorem v82_apply (b t : Fin 4) (r : Fin 512) (h : Fin 8) (l : Fin 16) :
    val_main_v82 (F := Ideal) x1 x11 x12 (ix5 b t r h l) = posFeat (ops x0 x1 x2 x3 x4 x5 x6 x7 x8 x9 x10 x11 x12 x13 b t) r l := by
  pointwise [val_main_v81, val_main_v82]
  simp only [v69_apply x0 x1 x2 x3 x4 x5 x6 x7 x8 x9 x10 x11 x12 x13 b t]

/-- The queries. -/
theorem v80_apply (b t : Fin 4) (r : Fin 512) (h : Fin 8) (i : Fin 64) :
    val_main_v80 (F := Ideal) x0 x1 x4 x8 x9 x10 x11 x12 x13 (ix5 b t r h i) = RefQ (ops x0 x1 x2 x3 x4 x5 x6 x7 x8 x9 x10 x11 x12 x13 b t) r h i := by
  refine (Tail.write_apply _ _ b t r h i).trans ?_
  simp only [v50_apply x0 x1 x2 x3 x4 x5 x6 x7 x8 x9 x10 x11 x12 x13 b t, v78_apply x0 x1 x2 x3 x4 x5 x6 x7 x8 x9 x10 x11 x12 x13 b t]
  rfl

/-- The keys. -/
theorem v84_apply (b t : Fin 4) (r : Fin 512) (h : Fin 8) (i : Fin 64) :
    val_main_v84 (F := Ideal) x0 x1 x5 x8 x9 x10 x11 x12 (ix5 b t r h i) = RefK (ops x0 x1 x2 x3 x4 x5 x6 x7 x8 x9 x10 x11 x12 x13 b t) r h i := by
  refine (Tail.write_apply _ _ b t r h i).trans ?_
  simp only [v68_apply x0 x1 x2 x3 x4 x5 x6 x7 x8 x9 x10 x11 x12 x13 b t, v82_apply x0 x1 x2 x3 x4 x5 x6 x7 x8 x9 x10 x11 x12 x13 b t]
  rfl

/-- Which points are there. -/
theorem v87_apply (b t : Fin 4) (r : Fin 512) :
    val_main_v87 (F := Ideal) x2 (ix2 b r) = (ops x0 x1 x2 x3 x4 x5 x6 x7 x8 x9 x10 x11 x12 x13 b t).pad r := by
  pointwise [val_main_v85, val_main_v86, val_main_v87, val_main_c_4]
  rw [cmpi_once]
  rfl

/-- Which points are keys. -/
theorem v99_apply (b t : Fin 4) (r : Fin 512) :
    val_main_v99 (F := Ideal) x2 x3 (ix3 b t r) = IntOp.andi ((ops x0 x1 x2 x3 x4 x5 x6 x7 x8 x9 x10 x11 x12 x13 b t).spike r) ((ops x0 x1 x2 x3 x4 x5 x6 x7 x8 x9 x10 x11 x12 x13 b t).pad r) := by
  pointwise [val_main_v88, val_main_v89, val_main_v90, val_main_v91, val_main_v92, val_main_v93, val_main_v94, val_main_v95, val_main_v96, val_main_v97, val_main_v98, val_main_v99, val_main_c_5, val_main_c_6, val_main_c_7]
  unfold id cmpi
  pointwise []
  rw [cmpi_twice, cmpi_bit, v87_apply x0 x1 x2 x3 x4 x5 x6 x7 x8 x9 x10 x11 x12 x13 b t]
  rfl

end Cert.ReferenceIdeal.RefRead

end
-- ==== Proof.RefSoft.lean ====
/- The reference program's softmax and what follows it, read at an index. -/
module

public import proofs.«01_k».proof.Proof.RefRead
public import Idealize.ShloMosaic.Lib.Pointwise

@[expose] public section

set_option maxRecDepth 16384

noncomputable section

namespace Cert.ReferenceIdeal.RefSoft

open Cert.ReferenceIdeal Cert.ReferenceIdeal.Gen Cert.ReferenceIdeal.Read Cert.ReferenceIdeal.RefRead Cert.Attn Idealize.ShloMosaic

variable (x0 : (⟨S4x4x512x512, .f32⟩ : BufTy).Contents (Elt Ideal))
  (x1 : (⟨S4x512x3, .f32⟩ : BufTy).Contents (Elt Ideal))
  (x2 : (⟨S4x512, .i1⟩ : BufTy).Contents (Elt Ideal))
  (x3 : (⟨S4x4x512, .i1⟩ : BufTy).Contents (Elt Ideal))
  (x4 : (⟨S512x512, .f32⟩ : BufTy).Contents (Elt Ideal))
  (x5 : (⟨S512x512, .f32⟩ : BufTy).Contents (Elt Ideal))
  (x6 : (⟨S512x512, .f32⟩ : BufTy).Contents (Elt Ideal))
  (x7 : (⟨S512x512, .f32⟩ : BufTy).Contents (Elt Ideal))
  (x8 : (⟨S512, .f32⟩ : BufTy).Contents (Elt Ideal))
  (x9 : (⟨S32x3, .f32⟩ : BufTy).Contents (Elt Ideal))
  (x10 : (⟨S32, .f32⟩ : BufTy).Contents (Elt Ideal))
  (x11 : (⟨S32x3, .f32⟩ : BufTy).Contents (Elt Ideal))
  (x12 : (⟨S16x64, .f32⟩ : BufTy).Contents (Elt Ideal))
  (x13 : (⟨S8x16, .f32⟩ : BufTy).Contents (Elt Ideal))

/-- The masked scores. -/
theorem v104_apply (b t : Fin 4) (h : Fin 8) (r m : Fin 512) :
    val_main_v104 (F := Ideal) x0 x1 x2 x3 x4 x5 x8 x9 x10 x11 x12 x13 (ix5 b t h r m) = RefScore (ops x0 x1 x2 x3 x4 x5 x6 x7 x8 x9 x10 x11 x12 x13 b t) h r m := by
  pointwise [val_main_v100, val_main_v101, val_main_v102, val_main_v103, val_main_v104, val_main_call0_v0, val_main_call0_v1, val_main_call0_v2, val_main_cst_8, val_main_cst_9]
  simp only [v80_apply x0 x1 x2 x3 x4 x5 x6 x7 x8 x9 x10 x11 x12 x13 b t, v84_apply x0 x1 x2 x3 x4 x5 x6 x7 x8 x9 x10 x11 x12 x13 b t, v99_apply x0 x1 x2 x3 x4 x5 x6 x7 x8 x9 x10 x11 x12 x13 b t]
  have h0 : (id (constant S_ .f32 4286578688#32) ix0 : Ideal .f32) = (⊥ : EReal) :=
    (show Ideal.ofBits .f32 0xFF800000#32 = ⊥ by simp [Ideal.ofBits, Ideal.ieee])
  rw [h0]
  unfold RefScore Scalar.select
  by_cases hk : isKey (ops x0 x1 x2 x3 x4 x5 x6 x7 x8 x9 x10 x11 x12 x13 b t) m
  · rw [if_pos hk]; exact if_pos ((andi_one _ _).2 hk)
  · rw [if_neg hk]; exact if_neg fun hc => hk ((andi_one _ _).1 hc)

/-- A row's greatest entry, of any scores. -/
theorem max_apply (y : FVec Ideal S4x4x8x512x512 .f32) (b t : Fin 4) (h : Fin 8) (r : Fin 512) :
    Host.reduce FloatOps.maximumf y (val_main_cst_10 (F := Ideal)) reducesTo_S4x4x8x512x512_S4x4x8x512_d4 h_S_ (ix4 b t h r)
      = rowMax (fun r m => y (ix5 b t h r m)) r := by
  have h0 : ∀ i, val_main_cst_10 (F := Ideal) i = (⊥ : EReal) := fun i => by
    exact (show Ideal.ofBits .f32 0xFF800000#32 = ⊥ by simp [Ideal.ofBits, Ideal.ieee])
  generalize val_main_cst_10 (F := Ideal) = z at h0
  pointwise []
  simp only [h0]
  rfl
/-- The greatest score of each row. -/
theorem v107_apply (b t : Fin 4) (h : Fin 8) (r : Fin 512) :
    val_main_v107 (F := Ideal) x0 x1 x2 x3 x4 x5 x8 x9 x10 x11 x12 x13 (ix4 b t h r) = rowMax (RefScore (ops x0 x1 x2 x3 x4 x5 x6 x7 x8 x9 x10 x11 x12 x13 b t) h) r := by
  have hm := max_apply (val_main_v104 (F := Ideal) x0 x1 x2 x3 x4 x5 x8 x9 x10 x11 x12 x13) b t h r
  rw [val_main_v107_apply, val_main_v105, hm]
  have h0 : val_main_v106 (F := Ideal) (ix4 b t h r) = (⊥ : EReal) := by
    exact (show Ideal.ofBits .f32 0xFF800000#32 = ⊥ by simp [Ideal.ofBits, Ideal.ieee])
  rw [h0]
  refine (max_eq_right bot_le).trans ?_
  simp only [v104_apply x0 x1 x2 x3 x4 x5 x6 x7 x8 x9 x10 x11 x12 x13 b t]

/-- The exponentials. -/
theorem v111_apply (b t : Fin 4) (h : Fin 8) (r m : Fin 512) :
    val_main_v111 (F := Ideal) x0 x1 x2 x3 x4 x5 x8 x9 x10 x11 x12 x13 (ix5 b t h r m) = expo (RefScore (ops x0 x1 x2 x3 x4 x5 x6 x7 x8 x9 x10 x11 x12 x13 b t) h) r m := by
  pointwise [val_main_v108, val_main_v109, val_main_v110, val_main_v111]
  simp only [v104_apply x0 x1 x2 x3 x4 x5 x6 x7 x8 x9 x10 x11 x12 x13 b t, v107_apply x0 x1 x2 x3 x4 x5 x6 x7 x8 x9 x10 x11 x12 x13 b t]
  rfl

/-- Whether there is a key. -/
theorem v117_apply (b t : Fin 4)  :
    val_main_v117 (F := Ideal) x2 x3 (ix2 b t) = ind (hasKey (ops x0 x1 x2 x3 x4 x5 x6 x7 x8 x9 x10 x11 x12 x13 b t)) := by
  pointwise [val_main_v116, val_main_v117, val_main_c_13]
  simp only [v99_apply x0 x1 x2 x3 x4 x5 x6 x7 x8 x9 x10 x11 x12 x13 b t, uitofp_bit, Routing.fold_ori, andi_one, Finset.mem_univ, true_and]

/-- The weights of the values. -/
theorem v120_apply (b t : Fin 4) (h : Fin 8) (r m : Fin 512) :
    val_main_v120 (F := Ideal) x0 x1 x2 x3 x4 x5 x8 x9 x10 x11 x12 x13 (ix5 b t h r m) = RefProb (ops x0 x1 x2 x3 x4 x5 x6 x7 x8 x9 x10 x11 x12 x13 b t) h r m := by
  pointwise [val_main_v112, val_main_v113, val_main_v114, val_main_v115, val_main_v118, val_main_v119, val_main_v120, val_main_cst_12]
  simp only [v111_apply x0 x1 x2 x3 x4 x5 x6 x7 x8 x9 x10 x11 x12 x13 b t, v117_apply x0 x1 x2 x3 x4 x5 x6 x7 x8 x9 x10 x11 x12 x13 b t]
  unfold RefProb
  rfl

/-- The reference's result. -/
theorem v128_apply (b t : Fin 4) (r e : Fin 512) :
    val_main_v128 (F := Ideal) x0 x1 x2 x3 x4 x5 x6 x7 x8 x9 x10 x11 x12 x13 (ix4 b t r e) = Ref (ops x0 x1 x2 x3 x4 x5 x6 x7 x8 x9 x10 x11 x12 x13 b t) r e := by
  pointwise [val_main_v121, val_main_v122, val_main_v123, val_main_v124, val_main_v125, val_main_v126, val_main_v127, val_main_v128]
  simp only [v120_apply x0 x1 x2 x3 x4 x5 x6 x7 x8 x9 x10 x11 x12 x13 b t, v26_apply x0 x1 x2 x3 x4 x5 x6 x7 x8 x9 x10 x11 x12 x13 b t, v87_apply x0 x1 x2 x3 x4 x5 x6 x7 x8 x9 x10 x11 x12 x13 b t]
  rw [uitofp_bit]
  rfl

end Cert.ReferenceIdeal.RefSoft

end
-- ==== Proof.Reals.lean ====
/- Extended reals that are real, and the normalised rows, which always are. -/
module

public import proofs.«01_k».proof.Proof.Spec

@[expose] public section

noncomputable section

namespace Cert.Attn

open Idealize.ShloMosaic

/-- An extended real that is a real number. -/
def IsR (x : EReal) : Prop := ∃ a : ℝ, x = (a : EReal)

/-- A real is real. -/
theorem IsR.coe (a : ℝ) : IsR (a : EReal) := ⟨a, rfl⟩
/-- Zero is real. -/
theorem IsR.zero : IsR 0 := ⟨0, rfl⟩
/-- Neither infinity. -/
theorem IsR.of_ne {x : EReal} (ht : x ≠ ⊤) (hb : x ≠ ⊥) : IsR x := ⟨x.toReal, (EReal.coe_toReal ht hb).symm⟩
/-- A real is not the upper infinity. -/
theorem IsR.ne_top {x : EReal} (h : IsR x) : x ≠ ⊤ := by
  obtain ⟨a, rfl⟩ := h; exact EReal.coe_ne_top a
/-- A real is not the lower infinity. -/
theorem IsR.ne_bot {x : EReal} (h : IsR x) : x ≠ ⊥ := by
  obtain ⟨a, rfl⟩ := h; exact EReal.coe_ne_bot a
/-- A sum of two reals is real. -/
theorem IsR.add {x y : EReal} (hx : IsR x) (hy : IsR y) : IsR (x + y) := by
  obtain ⟨a, rfl⟩ := hx; obtain ⟨b, rfl⟩ := hy; exact ⟨a + b, (EReal.coe_add a b).symm⟩
/-- A difference of reals is real. -/
theorem IsR.sub {x y : EReal} (hx : IsR x) (hy : IsR y) : IsR (x - y) := by
  obtain ⟨a, rfl⟩ := hx; obtain ⟨b, rfl⟩ := hy; exact ⟨a - b, (EReal.coe_sub a b).symm⟩
/-- A product of reals is real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- The cosine of a real is real. -/
theorem IsR.cos {x : EReal} (hx : IsR x) : IsR (Ideal.cos x) := by
  obtain ⟨a, rfl⟩ := hx; exact ⟨Real.cos a, rfl⟩
/-- The sine of a real is real. -/
theorem IsR.sin {x : EReal} (hx : IsR x) : IsR (Ideal.sin x) := by
  obtain ⟨a, rfl⟩ := hx; exact ⟨Real.sin a, rfl⟩
/-- A sum of reals is real. -/
theorem IsR.sum {ι : Type} (s : Finset ι) {f : ι → EReal} (h : ∀ i, IsR (f i)) : IsR (∑ i ∈ s, f i) :=
  Finset.sum_induction f IsR (fun _ _ => IsR.add) IsR.zero fun i _ => h i

/-! ## The constants -/

/-- The word of the row's length is 512. -/
theorem c512_eq : c512 = ((512 : ℝ) : EReal) := by
  unfold c512; simp [Ideal.ofBits, Ideal.ieee, -EReal.coe_mul]; norm_num
/-- The word of the score's scale is one eighth, the reciprocal root of 64. -/
theorem cScale_eq : cScale = ((1 / 8 : ℝ) : EReal) := by
  unfold cScale; simp [Ideal.ofBits, Ideal.ieee, -EReal.coe_mul]; norm_num
/-- The small constant is a positive real. -/
theorem cEps_pos : ∃ a : ℝ, 0 < a ∧ cEps = (a : EReal) := by
  refine ⟨_, ?_, by unfold cEps; simp [Ideal.ofBits, Ideal.ieee, -EReal.coe_mul]; rfl⟩
  norm_num
/-- The positional factor is real. -/
theorem cPos_real : IsR cPos := ⟨_, by unfold cPos; simp [Ideal.ofBits, Ideal.ieee, -EReal.coe_mul]; rfl⟩
/-- The score's scale is real. -/
theorem cScale_real : IsR cScale := ⟨_, cScale_eq⟩

/-! ## The normalised rows -/

/-- A square is not negative, of the infinities too. -/
theorem sq_nonneg' (x : EReal) : 0 ≤ x * x := by
  induction x using EReal.rec with
  | bot => simp
  | top => simp
  | coe a => exact_mod_cast mul_self_nonneg a

/-- The root's argument is positive: its reciprocal is real. -/
theorem rsqrt_real {s : EReal} (hs : 0 ≤ s) : IsR (Ideal.rsqrt (Ideal.div s c512 + cEps)) := by
  obtain ⟨e, he, h⟩ := cEps_pos
  rw [c512_eq, h, Ideal.div_coe (by norm_num)]
  induction s using EReal.rec with
  | bot => simp at hs
  | top =>
    rw [EReal.top_mul_coe_of_pos (by norm_num), EReal.top_add_coe]
    exact IsR.zero
  | coe a =>
    have ha : 0 ≤ a := by exact_mod_cast hs
    rw [← EReal.coe_mul, ← EReal.coe_add, Ideal.rsqrt_coe]
    have hp : 0 < a * (1 / 512) + e := by positivity
    rw [if_neg (not_lt.2 hp.le), if_neg hp.ne']
    exact IsR.coe _

/-- Every entry of the normalised rows is real, whatever the rows hold: a row with an infinite entry is divided to nought. -/
theorem norm_real (x : Mat) (r d : Fin 512) : IsR (norm x r d) := by
  unfold norm
  have hs : ∀ k ∈ (Finset.univ : Finset (Fin 512)), 0 ≤ x r k * x r k := fun k _ => sq_nonneg' _
  have hnn := Finset.sum_nonneg hs
  have hR := rsqrt_real hnn
  by_cases hx : IsR (x r d)
  · exact hx.mul hR
  have htop : x r d * x r d = ⊤ := by
    by_cases ht : x r d = ⊤
    · rw [ht]; rfl
    by_cases hb : x r d = ⊥
    · rw [hb]; rfl
    exact absurd (IsR.of_ne ht hb) hx
  have hsum : ∑ k, x r k * x r k = ⊤ := top_le_iff.1 (htop ▸ Finset.single_le_sum hs (Finset.mem_univ d))
  obtain ⟨e, -, h⟩ := cEps_pos
  rw [hsum, c512_eq, h, Ideal.div_coe (by norm_num), EReal.top_mul_coe_of_pos (by norm_num), EReal.top_add_coe, Ideal.rsqrt_top, mul_zero]
  exact IsR.zero

/-! ## The operands that the scores are made of -/

/-- The operands of the rotation and the scores are real. -/
structure Fine (I : Ops) : Prop where
  pp : ∀ r k, IsR (I.pp r k)
  wq : ∀ r d, IsR (I.wq r d)
  wk : ∀ r d, IsR (I.wk r d)
  w : ∀ d, IsR (I.w d)
  dirs : ∀ (l : Fin 16) k, IsR (I.dirs (low l) k)
  freqs : ∀ l : Fin 16, IsR (I.freqs (low l))
  omega : ∀ f k, IsR (I.omega f k)
  mix : ∀ p d, IsR (I.mix p d)
  gain : ∀ h l, IsR (I.gain h l)

variable {I : Ops} (H : Fine I)
include H

/-- The rotation's angles are real. -/
theorem angle_real (r : Fin 512) (l : Fin 16) : IsR (angle I r (low l)) :=
  (IsR.sum _ fun k => (H.pp r k).mul (H.dirs l k)).mul (H.freqs l)
/-- The random features' phases are real. -/
theorem phase_real (r : Fin 512) (f : Fin 32) : IsR (phase I r f) := IsR.sum _ fun k => (H.pp r k).mul (H.omega f k)
/-- The random features are real. -/
theorem phi_real (r : Fin 512) (d : Fin 64) : IsR (phi I r d) := by
  unfold phi; split_ifs
  · exact (phase_real H r _).cos
  · exact (phase_real H r _).sin
/-- The positional features are real. -/
theorem posFeat_real (r : Fin 512) (p : Fin 16) : IsR (posFeat I r p) := IsR.sum _ fun d => (phi_real H r d).mul (H.mix p d)
/-- The weighted normalised rows are real. -/
theorem normW_real (r d : Fin 512) : IsR (normW I r d) := (norm_real I.x r d).mul (H.w d)
/-- The projected queries are real. -/
theorem projQ_real (r c : Fin 512) : IsR (mulT (normW I) I.wq r c) := IsR.sum _ fun d => (normW_real H r d).mul (H.wq c d)
/-- The projected keys are real. -/
theorem projK_real (r c : Fin 512) : IsR (mulT (normW I) I.wk r c) := IsR.sum _ fun d => (normW_real H r d).mul (H.wk c d)

/-- Rotated lanes are real if the lanes are. -/
theorem rot_real {p : Mat} (hp : ∀ r c, IsR (p r c)) (r : Fin 512) (h : Fin 8) (i : Fin 64) : IsR (RefRot I p r h i) := by
  have hc := fun j => (angle_real H r j).cos
  have hs := fun j => (angle_real H r j).sin
  have he : ∀ j, IsR (RefEven I p r h j) := fun j => ((hp _ _).mul (hc j)).sub ((hp _ _).mul (hs j))
  unfold RefRot; split_ifs
  · exact he _
  · exact ((he _).mul (hs _)).add ((hp _ _).mul (hc _))
  · exact hp _ _
/-- The queries are real. -/
theorem Q_real (r : Fin 512) (h : Fin 8) (i : Fin 64) : IsR (RefQ I r h i) := by
  unfold RefQ RefTail; split_ifs
  · exact rot_real H (projQ_real H) r h i
  · exact (cPos_real.mul (H.gain _ _)).mul (posFeat_real H r _)
/-- The keys are real. -/
theorem K_real (r : Fin 512) (h : Fin 8) (i : Fin 64) : IsR (RefK I r h i) := by
  unfold RefK RefTail; split_ifs
  · exact rot_real H (projK_real H) r h i
  · exact posFeat_real H r _
/-- The score of a key is real. -/
theorem score_real {h : Fin 8} {r m : Fin 512} (hk : isKey I m) : IsR (RefScore I h r m) := by
  unfold RefScore; rw [if_pos hk]
  exact (IsR.sum _ fun i => (Q_real H r h i).mul (K_real H m h i)).mul cScale_real

end Cert.Attn

end
-- ==== Proof.Rotation.lean ====
/- The rotation by planes is the reference's rotation, lane by lane of the permutation; so the scores agree. -/
module

public import proofs.«01_k».proof.Proof.Reals

@[expose] public section

noncomputable section

namespace Cert.Attn

open Idealize.ShloMosaic

/-- The projection by weighted rows of the matrix is the projection of the weighted normalised rows. -/
theorem proj_eq (I : Ops) (W : Mat) (σ : Fin 512 → Fin 512) :
    mulT (norm I.x) (fun c d => W (σ c) d * I.w d) = fun r c => mulT (normW I) W r (σ c) := by
  funext r c
  refine Finset.sum_congr rfl fun d _ => ?_
  show norm I.x r d * (W (σ c) d * I.w d) = norm I.x r d * I.w d * W (σ c) d
  rw [mul_comm (W (σ c) d), mul_assoc]

/-! ## Lanes -/

/-- The permutation acts within each head. -/
theorem perm_lane (h : Fin 8) (i : Fin 64) : perm (lane h i) = lane h (permLane i) := by
  have h1 : headOf (lane h i) = h := Fin.ext (show (64 * h.val + i.val) / 64 = h.val by omega)
  have h2 : inHead (lane h i) = i := Fin.ext (show (64 * h.val + i.val) % 64 = i.val by omega)
  unfold perm; rw [h1, h2]
/-- Every lane is a lane of a head. -/
theorem lane_split (c : Fin 512) : lane (headOf c) (inHead c) = c := Fin.ext (show 64 * (c.val / 64) + c.val % 64 = c.val by omega)
/-- The permutation of a head's lanes is one to one and onto. -/
theorem permLane_bijective : Function.Bijective permLane := by
  have : Function.Injective permLane := by decide +kernel
  exact Finite.injective_iff_bijective.1 this

variable (I : Ops)

/-! ## The features -/

/-- The first feature columns are the angles' cosines. -/
theorem feature_cos (r : Fin 512) (l : Fin 16) : feature I r (fcol 0 l) = Ideal.cos (angle I r (low l)) := by
  have hl : (fcol 0 l).val = l.val := by simp
  unfold feature
  rw [dif_pos (show (fcol 0 l).val < 16 by omega)]
  exact congrArg (fun f => Ideal.cos (angle I r f)) (Fin.ext hl)
/-- The next feature columns are the angles' sines. -/
theorem feature_sin (r : Fin 512) (l : Fin 16) : feature I r (fcol 1 l) = Ideal.sin (angle I r (low l)) := by
  have hl : (fcol 1 l).val = 16 + l.val := by simp
  have hs : (fcol 1 l).val - 16 = l.val := by omega
  unfold feature
  rw [dif_neg (show ¬(fcol 1 l).val < 16 by omega), dif_pos (show (fcol 1 l).val - 16 < 16 by omega)]
  simp only [hs]
/-- The columns after them are the positional features. -/
theorem feature_pos (r : Fin 512) (l : Fin 16) : feature I r (fcol 2 l) = posFeat I r l := by
  have hl : (fcol 2 l).val = 32 + l.val := by simp
  have hs : (fcol 2 l).val - 16 - 16 = l.val := by omega
  unfold feature
  rw [dif_neg (show ¬(fcol 2 l).val < 16 by omega), dif_neg (show ¬(fcol 2 l).val - 16 < 16 by omega),
    dif_pos (show (fcol 2 l).val - 16 - 16 < 16 by omega)]
  simp only [hs]

/-! ## The two rotations -/

/-- The rotation by planes with a tail, at lane `i` of head `h`, is the reference's at the permuted lane. -/
theorem rot_eq (H : Fine I) {p T : Mat} {tail : Fin 8 → Fin 16 → EReal} (hp : ∀ r c, IsR (p r c)) (r : Fin 512)
    (hT : ∀ c, T r c = ![0, 0, 0, tail (headOf c) (sub16 c)] (quarter c)) (h : Fin 8) (i : Fin 64) :
    OptRot (fun r c => p r (perm c)) (PlaneA (feature I)) (PlaneL (feature I)) (PlaneR (feature I)) T r (lane h i)
      = RefTail I p (fun h l => tail h l) r h (permLane i) := by
  have hhead : headOf (lane h i) = h := Fin.ext (show (64 * h.val + i.val) / 64 = h.val by omega)
  unfold OptRot PlaneA PlaneL PlaneR RefTail
  simp only [hT, feature_cos, feature_sin, perm_lane, hhead]
  have hq : ∀ k : Fin 4, i.val / 16 = k.val → quarter (lane h i) = k := fun k hk => Fin.ext (by
    show (64 * h.val + i.val) / 16 % 4 = k.val; omega)
  have hsub : ∀ l : Fin 16, i.val % 16 = l.val → sub16 (lane h i) = l := fun l hl => Fin.ext (by
    show (64 * h.val + i.val) % 16 = l.val; omega)
  obtain hi | hi | hi | hi : i.val / 16 = 0 ∨ i.val / 16 = 1 ∨ i.val / 16 = 2 ∨ i.val / 16 = 3 := by omega
  · rw [hq 0 hi, hsub ⟨i.val, by omega⟩ (by simp; omega)]
    have hr : perm (right16 (lane h i)) = lane h ⟨1 + 2 * i.val, by omega⟩ := by
      have : right16 (lane h i) = lane h ⟨i.val + 16, by omega⟩ := Fin.ext (by
        show (64 * h.val + i.val + 16) % 512 = 64 * h.val + (i.val + 16); omega)
      rw [this, perm_lane]
      congr 1
      unfold permLane
      rw [dif_neg (by simp), dif_pos (by simp; omega)]
      exact Fin.ext (by simp; omega)
    have hl : permLane i = ⟨2 * i.val, by omega⟩ := by unfold permLane; rw [dif_pos (by omega)]
    rw [hr, hl, dif_pos (by simp; omega)]
    unfold RefRot
    rw [dif_pos (by simp; omega), if_pos (by simp)]
    unfold RefEven
    have hj : 2 * i.val / 2 = i.val := by omega
    simp only [hj, Matrix.cons_val_zero, mul_zero, add_zero]
    rw [zero_sub, mul_neg, ← sub_eq_add_neg]
  · rw [hq 1 hi, hsub ⟨i.val - 16, by omega⟩ (by simp; omega)]
    have hr : perm (left16 (lane h i)) = lane h ⟨2 * (i.val - 16), by omega⟩ := by
      have : left16 (lane h i) = lane h ⟨i.val - 16, by omega⟩ := Fin.ext (by
        show (64 * h.val + i.val + 496) % 512 = 64 * h.val + (i.val - 16); omega)
      rw [this, perm_lane]
      congr 1
      unfold permLane
      rw [dif_pos (by simp; omega)]
    have hl : permLane i = ⟨1 + 2 * (i.val - 16), by omega⟩ := by
      unfold permLane; rw [dif_neg (by omega), dif_pos (by omega)]; exact Fin.ext (by simp; omega)
    rw [hr, hl, dif_pos (by simp; omega)]
    unfold RefRot
    rw [dif_pos (by simp; omega), if_neg (by simp)]
    unfold RefOdd RefEven
    have hj : (1 + 2 * (i.val - 16)) / 2 = i.val - 16 := by omega
    simp only [hj, Matrix.cons_val_one, Matrix.cons_val_zero, mul_zero, add_zero]
    obtain ⟨a, ha⟩ := hp r (lane h ⟨2 * (i.val - 16), by omega⟩)
    obtain ⟨b, hb⟩ := hp r (lane h ⟨1 + 2 * (i.val - 16), by omega⟩)
    obtain ⟨u, hu⟩ := (angle_real H r ⟨i.val - 16, by omega⟩)
    rw [ha, hb, hu, Ideal.cos_coe, Ideal.sin_coe]
    norm_cast
    ring
  · have hl : permLane i = i := by unfold permLane; rw [dif_neg (by omega), dif_neg (by omega)]
    rw [hq 2 hi, hl, dif_pos (by omega)]
    unfold RefRot
    rw [dif_neg (by omega)]
    simp
  · have hl : permLane i = i := by unfold permLane; rw [dif_neg (by omega), dif_neg (by omega)]
    rw [hq 3 hi, hl, dif_neg (by omega), hsub ⟨i.val - 48, by omega⟩ (by simp; omega)]
    simp

/-- The scores agree. -/
theorem score_eq (H : Fine I) (h : Fin 8) :
    OptScore
        (OptRot (mulT (norm I.x) fun c d => I.wq (perm c) d * I.w d) (PlaneA (feature I)) (PlaneL (feature I)) (PlaneR (feature I))
          (PlaneQ (feature I) fun h l => cPos * I.gain h l))
        (OptRot (mulT (norm I.x) fun c d => I.wk (perm c) d * I.w d) (PlaneA (feature I)) (PlaneL (feature I)) (PlaneR (feature I))
          (PlaneK (feature I)))
        (OptBias fun m => ind (isKey I m)) h
      = RefScore I h := by
  funext r m
  have hq : ∀ i, OptRot (mulT (norm I.x) fun c d => I.wq (perm c) d * I.w d) (PlaneA (feature I)) (PlaneL (feature I)) (PlaneR (feature I))
      (PlaneQ (feature I) fun h l => cPos * I.gain h l) r (lane h i) = RefQ I r h (permLane i) := fun i => by
    rw [proj_eq I I.wq perm]
    exact rot_eq I H (tail := fun h l => cPos * I.gain h l * posFeat I r l) (projQ_real H) r
      (fun c => by unfold PlaneQ; rw [feature_pos]) h i
  have hk : ∀ i, OptRot (mulT (norm I.x) fun c d => I.wk (perm c) d * I.w d) (PlaneA (feature I)) (PlaneL (feature I)) (PlaneR (feature I))
      (PlaneK (feature I)) m (lane h i) = RefK I m h (permLane i) := fun i => by
    rw [proj_eq I I.wk perm]
    exact rot_eq I H (tail := fun _ l => posFeat I m l) (projK_real H) m (fun c => by unfold PlaneK; rw [feature_pos]) h i
  unfold OptScore OptBias RefScore
  simp only [hq, hk]
  rw [Function.Bijective.sum_comp permLane_bijective fun i => RefQ I r h i * RefK I m h i]
  by_cases hm : isKey I m
  · rw [if_pos hm, if_pos (show ind (isKey I m) ≠ 0 by rw [ind_pos hm]; exact one_ne_zero), add_zero]
  · rw [if_neg hm, if_neg (show ¬ind (isKey I m) ≠ 0 by rw [ind_neg hm]; exact not_not.2 rfl), EReal.add_bot]

end Cert.Attn

end
-- ==== Proof.Equation.lean ====
/- The optimised program's result is the reference's. -/
module

public import proofs.«01_k».proof.Proof.Rotation

@[expose] public section

noncomputable section

namespace Cert.Attn

open Idealize.ShloMosaic

variable {I : Ops} (H : Fine I)
include H

/-- A score is never the upper infinity. -/
theorem score_lt_top (h : Fin 8) (r m : Fin 512) : RefScore I h r m < ⊤ := by
  by_cases hm : isKey I m
  · exact lt_top_iff_ne_top.2 (score_real H hm).ne_top
  · unfold RefScore; rw [if_neg hm]; exact bot_lt_top
/-- Where there is a key, a row's greatest score is real. -/
theorem rowMax_real (hk : hasKey I) (h : Fin 8) (r : Fin 512) : IsR (rowMax (RefScore I h) r) := by
  obtain ⟨k, hk⟩ := hk
  refine IsR.of_ne (lt_top_iff_ne_top.1 ?_) (bot_lt_iff_ne_bot.1 ?_)
  · exact (Finset.fold_max_lt _).2 ⟨bot_lt_top, fun m _ => score_lt_top H h r m⟩
  · exact (Finset.lt_fold_max _).2 (.inr ⟨k, Finset.mem_univ k, bot_lt_iff_ne_bot.2 (score_real H hk).ne_bot⟩)
/-- Where there is a key, every exponential is a real that is not negative, and the key's is positive. -/
theorem expo_real (hk : hasKey I) (h : Fin 8) (r m : Fin 512) :
    ∃ a : ℝ, 0 ≤ a ∧ (isKey I m → 0 < a) ∧ expo (RefScore I h) r m = (a : EReal) := by
  obtain ⟨b, hb⟩ := rowMax_real H hk h r
  unfold expo
  rw [hb]
  by_cases hm : isKey I m
  · obtain ⟨a, ha⟩ := score_real H (h := h) (r := r) hm
    exact ⟨Real.exp (a - b), (Real.exp_pos _).le, fun _ => Real.exp_pos _, by rw [ha, ← EReal.coe_sub, Ideal.exp_coe]⟩
  · refine ⟨0, le_rfl, fun hc => absurd hc hm, ?_⟩
    unfold RefScore
    rw [if_neg hm, EReal.bot_sub, Ideal.exp_bot, EReal.coe_zero]
/-- Where there is a key, the exponentials' sum is a positive real. -/
theorem total_real (hk : hasKey I) (h : Fin 8) (r : Fin 512) : ∃ l : ℝ, 0 < l ∧ ∑ m, expo (RefScore I h) r m = (l : EReal) := by
  choose a ha0 hap ha using fun m => expo_real H hk h r m
  refine ⟨∑ m, a m, ?_, ?_⟩
  · obtain ⟨k, hk⟩ := hk
    exact Finset.sum_pos' (fun m _ => ha0 m) ⟨k, Finset.mem_univ k, hap k hk⟩
  · simp only [ha]
    exact (map_sum (⟨⟨Real.toEReal, EReal.coe_zero⟩, EReal.coe_add⟩ : ℝ →+ EReal) a Finset.univ).symm

omit H in
/-- A factor that is real and not negative goes through a sum, whatever the summands. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (by exact_mod_cast hc) (EReal.coe_ne_top c) _ _

/-- Where there is a key, dividing at the end is dividing each weight. -/
theorem head_eq (hk : hasKey I) (h : Fin 8) (r : Fin 512) (v : Fin 512 → EReal) :
    (∑ m, expo (RefScore I h) r m * v m) * Ideal.div 1 (∑ m, expo (RefScore I h) r m) = ∑ m, v m * RefProb I h r m := by
  obtain ⟨l, hl, hs⟩ := total_real H hk h r
  unfold RefProb
  rw [hs, Ideal.div_coe hl.ne', one_mul, sum_mul_real _ _ (by positivity)]
  refine Finset.sum_congr rfl fun m _ => ?_
  rw [Ideal.div_coe hl.ne', ind_pos hk, mul_one, mul_comm (expo (RefScore I h) r m) (v m), mul_assoc]

/-- The optimised program computes the reference's attention. -/
theorem opt_eq : Opt I = Ref I := by
  funext r e
  unfold Opt OptAttn Ref
  beta_reduce
  by_cases hk : hasKey I
  · have hm : ind (I.pad r = 1#1 ∧ hasKey I) = ind (I.pad r = 1#1) := by
      by_cases hp : I.pad r = 1#1
      · rw [ind_pos hp, ind_pos ⟨hp, hk⟩]
      · rw [ind_neg hp, ind_neg fun hc => hp hc.1]
    rw [hm]
    congr 1
    refine Finset.sum_congr rfl fun c _ => ?_
    congr 1
    unfold OptHead
    have hv : mulT (norm I.x) (fun c d => I.wv c d * I.w d) = mulT (normW I) I.wv := proj_eq I I.wv id
    rw [score_eq I H, hv]
    exact head_eq H hk (headOf c) r fun m => mulT (normW I) I.wv m (lane (headOf c) (inHead c))
  · rw [ind_neg fun hc => hk hc.2, mul_zero]
    have h0 : ∀ h m, RefProb I h r m = 0 := fun h m => by unfold RefProb; rw [ind_neg hk, mul_zero]
    simp [h0]

end Cert.Attn

end
-- ==== Proof.Finite.lean ====
/- What the precondition says: the operands of the rotation and the scores are real. -/
module

public import proofs.«01_k».proof.Defs
public import proofs.«01_k».proof.Proof.Gen.KernelIdeal
public import proofs.«01_k».proof.Proof.Reals
public import proofs.«01_k».proof.Proof.HostK

@[expose] public section

set_option maxRecDepth 16384

noncomputable section

namespace Cert.KernelIdeal.Finite

open Cert.KernelIdeal Cert.Attn Idealize.ShloMosaic Idealize.ShloMosaic.TcCoe
open Idealize.SL.Sem

/-- The side conditions of the precondition's operations. -/
instance facts : Cert.Pre_finite.Facts where
  slices_S32x3_S16x3_0_0 := by decide
  slices_S32_S16_0 := by decide
  bcast_S_S4x512x3 := by decide
  bcast_S_S512x512 := by decide
  bcast_S_S512 := by decide
  bcast_S_S16x3 := by decide
  bcast_S_S16 := by decide
  bcast_S_S32x3 := by decide
  bcast_S_S16x64 := by decide
  bcast_S_S8x16 := by decide

/-- The word of the upper infinity. -/
theorem top_word : Ideal.ofBits .f32 0x7F800000#32 = (⊤ : EReal) := by simp [Ideal.ofBits, Ideal.ieee]

/-- A magnitude below the upper infinity is a real's. -/
theorem real_of_lt (x : EReal) (h : BitVec.ofBool (decide (FloatOps.absf (F := Ideal) (φ := .f32) x < Ideal.ofBits .f32 0x7F800000#32)) = 1#1) :
    IsR x := by
  rw [top_word] at h
  have hlt : (FloatOps.absf (F := Ideal) (φ := .f32) x : EReal) < ⊤ := by
    by_contra hn
    rw [decide_eq_false hn] at h
    exact absurd h (by decide)
  refine IsR.of_ne ?_ ?_
  · rintro rfl
    exact absurd hlt (by show ¬ ((⊤ : EReal) ⊔ -⊤ < ⊤); simp)
  · rintro rfl
    exact absurd hlt (by show ¬ ((⊥ : EReal) ⊔ -⊥ < ⊤); simp)

variable (m : (i : Loc nD τ sig) → Buf (Elt Ideal) i) (c : Dev nD)

/-- The precondition's operands are real. -/
theorem fine (h : Cert.Pre_KernelIdeal_finite m) (b t : Fin 4) : Fine (HostK.ops m c b t) := by
  obtain ⟨h1, h2, h3, h4, h5, h6, h7, h8, h9⟩ := h c
  unfold Cert.Pre_finite.fn Cert.Pre_finite.fn_part1 at h1 h2 h3 h4 h5 h6 h7 h8 h9
  have h2' := fun r d => congrFun h2 (ix2 r d)
  pointwise [] at h2'
  have h3' := fun r d => congrFun h3 (ix2 r d)
  pointwise [] at h3'
  have h4' := fun d => congrFun h4 (ix1 d)
  pointwise [] at h4'
  have h6' := fun l => congrFun h6 (ix1 l)
  pointwise [] at h6'
  have h8' := fun p d => congrFun h8 (ix2 p d)
  pointwise [] at h8'
  have h9' := fun h l => congrFun h9 (ix2 h l)
  pointwise [] at h9'
  refine ⟨fun r k => ?_, fun r d => real_of_lt _ (h2' r d), fun r d => real_of_lt _ (h3' r d), fun d => real_of_lt _ (h4' d), fun l k => ?_,
    fun l => real_of_lt _ (h6' l), fun f k => ?_, fun p d => real_of_lt _ (h8' p d), fun h l => real_of_lt _ (h9' h l)⟩
  · have h := congrFun h1 (ix3 b r k)
    pointwise [] at h
    exact real_of_lt _ h
  · have h := congrFun h5 (ix2 l k)
    pointwise [] at h
    exact real_of_lt _ h
  · have h := congrFun h7 (ix2 f k)
    pointwise [] at h
    exact real_of_lt _ h

end Cert.KernelIdeal.Finite

end
-- ==== Proof.Result.lean ====
/- Under the precondition the reference's result is the program's. -/
module

public import proofs.«01_k».proof.Defs
public import proofs.«01_k».proof.Proof.KRun
public import proofs.«01_k».proof.Proof.KValue
public import proofs.«01_k».proof.Proof.RefSoft
public import proofs.«01_k».proof.Proof.Equation
public import proofs.«01_k».proof.Proof.Finite
public import proofs.«01_k».proof.Proof.Gen.ReferenceIdeal.Run

@[expose] public section

set_option maxRecDepth 16384

noncomputable section

namespace Cert.Result

open Cert.KernelIdeal Cert.KernelIdeal.Gen Cert.Attn Idealize.ShloMosaic Idealize.ShloMosaic.TcCoe
open Idealize.SL.Sem

variable (m : (i : Loc nD τ sig) → Buf (Elt Ideal) i) (ρ : Dev nD → PrngReg) (c : Dev nD)

/-- The reference's result, of the program's arguments. -/
abbrev refResult : Vec Ideal S4x4x512x512 .f32 :=
  Cert.ReferenceIdeal.Read.val_main_v128 (F := Ideal)
    (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The program leaves the reference's result. -/
theorem result_eq (h : Cert.Pre_KernelIdeal_finite m) : (W3 m ρ c (Proc.devRef .tc main_v64) : Vec Ideal S4x4x512x512 .f32) = refResult m c := by
  funext i
  rw [eq_ix4 i]
  refine (KValue.v64_apply m ρ c (i 0) (i 1) (i 2) (i 3)).trans ?_
  refine Eq.trans ?_ (Cert.ReferenceIdeal.RefSoft.v128_apply _ _ _ _ _ _ _ _ _ _ _ _ _ _ (i 0) (i 1) (i 2) (i 3)).symm
  exact congrFun (congrFun (opt_eq (Finite.fine m c h (i 0) (i 1))) (i 2)) (i 3)

/-- The reference's result, of its own memory. -/
abbrev ownResult (m' : (i : Loc Cert.ReferenceIdeal.nD Cert.ReferenceIdeal.τ Cert.ReferenceIdeal.sig) → Buf (Elt Ideal) i) (c : Dev nD) : Vec Ideal S4x4x512x512 .f32 :=
  Cert.ReferenceIdeal.Read.val_main_v128 (F := Ideal)
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))

/-- Memories that agree on the arguments give the reference one result. -/
theorem ownResult_eq (m' : (i : Loc Cert.ReferenceIdeal.nD Cert.ReferenceIdeal.τ Cert.ReferenceIdeal.sig) → Buf (Elt Ideal) i)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)) :
    ownResult m' c = refResult m c := by
  obtain ⟨a0, a1, a2, a3, a4, a5, a6, a7, a8, a9, a10, a11, a12, a13⟩ := h
  unfold ownResult refResult
  rw [a0, a1, a2, a3, a4, a5, a6, a7, a8, a9, a10, a11, a12, a13]

/-- The reference's run leaves its result. -/
theorem reference_run (m' : (i : Loc Cert.ReferenceIdeal.nD Cert.ReferenceIdeal.τ Cert.ReferenceIdeal.sig) → Buf (Elt Ideal) i) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev nD, r.2.mem ((c.tc : Thread Cert.ReferenceIdeal.nD Cert.ReferenceIdeal.τ).loc Cert.ReferenceIdeal.main_v128) = ownResult m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run _ _ _).mono (fun _ h c => ⟨(h c).1.trans (Cert.ReferenceIdeal.Read.val_main_v128_eq (StableHlo.launchContents m' c)), (h c).2⟩)
    (Cert.ReferenceIdeal.Value.run (F := Ideal) m' ρ')

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run (F := Ideal) m ρ)

/-- Over the reals the idealized program and the reference leave equal results, if the operands of the rotation and the scores are real. -/
theorem values : Cert.algebraic_KernelIdeal_ReferenceIdeal_pre_finite
    (hKernelIdeal := Cert.KernelIdeal.Gen.facts) (hReferenceIdeal := Cert.ReferenceIdeal.Gen.facts) (hPre_finite := Cert.KernelIdeal.Finite.facts) := by
  intro m g m' g' h hargs
  refine ⟨fun c => Cert.Result.refResult m c, ?_, ?_⟩
  · refine (θ_run _ _ _).mono (fun r hr c => ⟨((hr.1 c).1).trans (Cert.Result.result_eq m g c h), (hr.1 c).2⟩) (Cert.KernelIdeal.KRun.run m g)
  · exact (θ_run _ _ _).mono (fun r hr c => ⟨(hr c).1.trans (Cert.Result.ownResult_eq m c m' (hargs c)), (hr c).2⟩) (Cert.Result.reference_run m' g')

/-- The frames of the three programs, the one named constant, and the equality of the results. -/
theorem claim : Cert.Claim :=
  ⟨Cert.Kernel.Gen.facts, Cert.KernelIdeal.Gen.facts, Cert.ReferenceIdeal.Gen.facts, Cert.KernelIdeal.Finite.facts,
   fun m ρ _ => Cert.Kernel.Gen.frame m ρ,
   fun m ρ _ => Cert.KernelIdeal.Gen.frame m ρ,
   fun m ρ _ => Cert.KernelIdeal.Gen.frame m ρ,
   reference_frame,
   fun m ρ _ => reference_frame m ρ trivial,
   IdealRules.named_const.statement Cert.KernelIdeal.κ "mask" .f32 0xF149F2CA#32 ⊥ rfl,
   values⟩

end Cert.Proof

end
